-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_within_7 [hPre_logits_within_7 : Cert.Pre_logits_within_7.Facts] (m : (ℓ : Loc Cert.KernelIdeal.nD Cert.KernelIdeal.τ Cert.KernelIdeal.sig) → Buf (Elt Ideal) ℓ) : Prop :=
  ∀ c : Dev Cert.KernelIdeal.nD,
    (Cert.Pre_logits_within_7.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_within_7 [hPre_logits_within_7 : Cert.Pre_logits_within_7.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_within_7.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_logits_within_7 [hKernelIdeal : Cert.KernelIdeal.Facts] [hPre_logits_within_7 : Cert.Pre_logits_within_7.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_within_7 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_logits_within_7 [hReferenceIdeal : Cert.ReferenceIdeal.Facts] [hPre_logits_within_7 : Cert.Pre_logits_within_7.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_within_7 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_logits_within_7 [hKernelIdeal : Cert.KernelIdeal.Facts] [hReferenceIdeal : Cert.ReferenceIdeal.Facts] [hPre_logits_within_7 : Cert.Pre_logits_within_7.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_within_7 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_logits_within_7 : Cert.Pre_logits_within_7.Facts),
    quiescent_Kernel (hKernel := hKernel)
    ∧ quiescent_KernelIdeal (hKernelIdeal := hKernelIdeal)
    ∧ quiescent_KernelIdeal_pre_logits_within_7 (hKernelIdeal := hKernelIdeal) (hPre_logits_within_7 := hPre_logits_within_7)
    ∧ quiescent_ReferenceIdeal (hReferenceIdeal := hReferenceIdeal)
    ∧ quiescent_ReferenceIdeal_pre_logits_within_7 (hReferenceIdeal := hReferenceIdeal) (hPre_logits_within_7 := hPre_logits_within_7)
    ∧ preserves_Kernel_KernelIdeal
    ∧ algebraic_KernelIdeal_ReferenceIdeal_pre_logits_within_7 (hKernelIdeal := hKernelIdeal) (hReferenceIdeal := hReferenceIdeal) (hPre_logits_within_7 := hPre_logits_within_7)
-- ==== Pre_logits_within_7.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x40E00000#32
  let main_v1 : FVec F S128x100000 .f32 := broadcastInDim S128x100000 ![] bcast_S_S128x100000 main_cst
  let main_v2 : IVec S128x100000 1 := cmpf .ole main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S100000x128 : Shape := ⟨2, ![100000, 128]⟩
abbrev S1x128 : Shape := ⟨2, ![1, 128]⟩
abbrev S10000x128 : Shape := ⟨2, ![10000, 128]⟩
abbrev S8x128 : Shape := ⟨2, ![8, 128]⟩
abbrev S80x128 : Shape := ⟨2, ![80, 128]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S100000x128, .f32⟩
  | .hbm, ⟨2, _⟩ => ⟨S1x128, .i32⟩
  | .local _ .vmem, ⟨0, _⟩ => ⟨S10000x128, .f32⟩
  | .local _ .vmem, ⟨1, _⟩ => ⟨S10000x128, .f32⟩
  | .local _ .vmem, ⟨2, _⟩ => ⟨S1x128, .i32⟩
  | .local _ .vmem, ⟨3, _⟩ => ⟨S8x128, .f32⟩
  | .local _ .vmem, ⟨4, _⟩ => ⟨S8x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32_6743 : BitVec 32 := 9#32
  let v30643 : BitVec 1 := Scalar.cmpi .eq arg0 c9_i32_6743
  let v30644 : BitVec 32 := Scalar.extui v30643
  let c0_i32_6744 : BitVec 32 := 0#32
  let v30645 : BitVec 1 := Scalar.cmpi .ne v30644 c0_i32_6744
  v30645

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1x128 : Shape := ⟨2, ![1, 128]⟩

abbrev nBuf : Space → Nat
  | .hbm => 256
  | .vmem => 0
  | .smem => 0
  | _ => 0

abbrev hbmTy0_0 (i : Nat) : BufTy := match i % 128 with
  | 0 => ⟨S128x100000, .f32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .f32⟩
  | 105 => ⟨S_, .f32⟩
  | 106 => ⟨S128x100000, .f32⟩
  | 107 => ⟨S128x100000, .f32⟩
  | 108 => ⟨S_, .f32⟩
  | 109 => ⟨S128x100000, .f32⟩
  | 110 => ⟨S128x100000, .f32⟩
  | 111 => ⟨S128x100000, .f32⟩
  | 112 => ⟨S128x100000, .f32⟩
  | 113 => ⟨S128x100000, .f32⟩
  | 114 => ⟨S128x100000, .f32⟩
  | 115 => ⟨S128x100000, .f32⟩
  | 116 => ⟨S_, .f32⟩
  | 117 => ⟨S128, .f32⟩
  | 118 => ⟨S128x1, .f32⟩
  | 119 => ⟨S128x100000, .i32⟩
  | 120 => ⟨S128x100000, .f32⟩
  | 121 => ⟨S128x100000, .i1⟩
  | 122 => ⟨S_, .i32⟩
  | 123 => ⟨S128x100000, .i32⟩
  | 124 => ⟨S128x100000, .i32⟩
  | 125 => ⟨S_, .i32⟩
  | 126 => ⟨S128, .i32⟩
  | 127 => ⟨S1x128, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_c_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_c_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_11 : Ref sig .tc := ⟨.hbm, 51, rfl⟩
abbrev main_v38 : Ref sig .tc := ⟨.hbm, 52, rfl⟩
abbrev main_v39 : Ref sig .tc := ⟨.hbm, 53, rfl⟩
abbrev main_c_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_13 : Ref sig .tc := ⟨.hbm, 58, rfl⟩
abbrev main_v43 : Ref sig .tc := ⟨.hbm, 59, rfl⟩
abbrev main_v44 : Ref sig .tc := ⟨.hbm, 60, rfl⟩
abbrev main_c_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_15 : Ref sig .tc := ⟨.hbm, 67, rfl⟩
abbrev main_v50 : Ref sig .tc := ⟨.hbm, 68, rfl⟩
abbrev main_v51 : Ref sig .tc := ⟨.hbm, 69, rfl⟩
abbrev main_c_16 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_17 : Ref sig .tc := ⟨.hbm, 76, rfl⟩
abbrev main_v57 : Ref sig .tc := ⟨.hbm, 77, rfl⟩
abbrev main_v58 : Ref sig .tc := ⟨.hbm, 78, rfl⟩
abbrev main_c_18 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_21 : Ref sig .tc := ⟨.hbm, 93, rfl⟩
abbrev main_v70 : Ref sig .tc := ⟨.hbm, 94, rfl⟩
abbrev main_v71 : Ref sig .tc := ⟨.hbm, 95, rfl⟩
abbrev main_c_22 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_23 : Ref sig .tc := ⟨.hbm, 100, rfl⟩
abbrev main_v75 : Ref sig .tc := ⟨.hbm, 101, rfl⟩
abbrev main_v76 : Ref sig .tc := ⟨.hbm, 102, rfl⟩
abbrev main_c_24 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_25 : Ref sig .tc := ⟨.hbm, 109, rfl⟩
abbrev main_v82 : Ref sig .tc := ⟨.hbm, 110, rfl⟩
abbrev main_v83 : Ref sig .tc := ⟨.hbm, 111, rfl⟩
abbrev main_c_26 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_27 : Ref sig .tc := ⟨.hbm, 118, rfl⟩
abbrev main_v89 : Ref sig .tc := ⟨.hbm, 119, rfl⟩
abbrev main_v90 : Ref sig .tc := ⟨.hbm, 120, rfl⟩
abbrev main_c_28 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_c_30 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_31 : Ref sig .tc := ⟨.hbm, 135, rfl⟩
abbrev main_v102 : Ref sig .tc := ⟨.hbm, 136, rfl⟩
abbrev main_v103 : Ref sig .tc := ⟨.hbm, 137, rfl⟩
abbrev main_c_32 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_33 : Ref sig .tc := ⟨.hbm, 142, rfl⟩
abbrev main_v107 : Ref sig .tc := ⟨.hbm, 143, rfl⟩
abbrev main_v108 : Ref sig .tc := ⟨.hbm, 144, rfl⟩
abbrev main_c_34 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_35 : Ref sig .tc := ⟨.hbm, 151, rfl⟩
abbrev main_v114 : Ref sig .tc := ⟨.hbm, 152, rfl⟩
abbrev main_v115 : Ref sig .tc := ⟨.hbm, 153, rfl⟩
abbrev main_c_36 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_37 : Ref sig .tc := ⟨.hbm, 160, rfl⟩
abbrev main_v121 : Ref sig .tc := ⟨.hbm, 161, rfl⟩
abbrev main_v122 : Ref sig .tc := ⟨.hbm, 162, rfl⟩
abbrev main_c_38 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_c_40 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_41 : Ref sig .tc := ⟨.hbm, 177, rfl⟩
abbrev main_v134 : Ref sig .tc := ⟨.hbm, 178, rfl⟩
abbrev main_v135 : Ref sig .tc := ⟨.hbm, 179, rfl⟩
abbrev main_c_42 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_43 : Ref sig .tc := ⟨.hbm, 184, rfl⟩
abbrev main_v139 : Ref sig .tc := ⟨.hbm, 185, rfl⟩
abbrev main_v140 : Ref sig .tc := ⟨.hbm, 186, rfl⟩
abbrev main_c_44 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_45 : Ref sig .tc := ⟨.hbm, 193, rfl⟩
abbrev main_v146 : Ref sig .tc := ⟨.hbm, 194, rfl⟩
abbrev main_v147 : Ref sig .tc := ⟨.hbm, 195, rfl⟩
abbrev main_c_46 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_c_47 : Ref sig .tc := ⟨.hbm, 202, rfl⟩
abbrev main_v153 : Ref sig .tc := ⟨.hbm, 203, rfl⟩
abbrev main_v154 : Ref sig .tc := ⟨.hbm, 204, rfl⟩
abbrev main_c_48 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_c_50 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_51 : Ref sig .tc := ⟨.hbm, 219, rfl⟩
abbrev main_v166 : Ref sig .tc := ⟨.hbm, 220, rfl⟩
abbrev main_v167 : Ref sig .tc := ⟨.hbm, 221, rfl⟩
abbrev main_c_52 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_53 : Ref sig .tc := ⟨.hbm, 226, rfl⟩
abbrev main_v171 : Ref sig .tc := ⟨.hbm, 227, rfl⟩
abbrev main_v172 : Ref sig .tc := ⟨.hbm, 228, rfl⟩
abbrev main_c_54 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst : Ref sig .tc := ⟨.hbm, 233, rfl⟩
abbrev main_v176 : Ref sig .tc := ⟨.hbm, 234, rfl⟩
abbrev main_v177 : Ref sig .tc := ⟨.hbm, 235, rfl⟩
abbrev main_cst_55 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_56 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_c_57 : Ref sig .tc := ⟨.hbm, 250, rfl⟩
abbrev main_call0_v0 : Ref sig .tc := ⟨.hbm, 251, rfl⟩
abbrev main_v190 : Ref sig .tc := ⟨.hbm, 252, rfl⟩
abbrev main_c_58 : Ref sig .tc := ⟨.hbm, 253, rfl⟩
abbrev main_v191 : Ref sig .tc := ⟨.hbm, 254, rfl⟩
abbrev main_v192 : Ref sig .tc := ⟨.hbm, 255, rfl⟩

abbrev nD : Nat := 1
abbrev τ : Topo := Topo.v7x

variable {F : FTy → Type} [FloatOps F]
-- ==== Proof.Draw.lean ====
/- The random draw on one counter word: the cipher, the fraction it gives, and the bounds on the noise made of it. -/
module

public import Idealize.ShloMosaic.PureOps
public import Idealize.ShloMosaic.Lib.IdealHost
public import Mathlib.Analysis.SpecialFunctions.Log.Basic
public import Idealize.ShloMosaic.Lib.Tactic
public import Mathlib.Analysis.Complex.Exponential

@[expose] public section

noncomputable section

namespace Cert.Proof

open Idealize.ShloMosaic

/-! ## The cipher on one word -/

/-- A word turned left by `a` bits, `b` being `32 - a`. -/
def turn (a b : ℕ) (y : BitVec 32) : BitVec 32 := y <<< a ||| y >>> b

/-- One round on a pair of words. -/
def round (a b : ℕ) (p : BitVec 32 × BitVec 32) : BitVec 32 × BitVec 32 := (p.1 + p.2, turn a b p.2 ^^^ (p.1 + p.2))

/-- The four rounds before the first, third and fifth key. -/
def evenRounds (p : BitVec 32 × BitVec 32) : BitVec 32 × BitVec 32 := round 6 26 (round 26 6 (round 15 17 (round 13 19 p)))

/-- The four rounds before the second and fourth key. -/
def oddRounds (p : BitVec 32 × BitVec 32) : BitVec 32 × BitVec 32 := round 24 8 (round 16 16 (round 29 3 (round 17 15 p)))

/-- A key added to a pair of words. -/
def addKey (a b : BitVec 32) (p : BitVec 32 × BitVec 32) : BitVec 32 × BitVec 32 := (p.1 + a, p.2 + b)

/-- The cipher's two words, twenty rounds after the counter word with the first key in it. -/
def cipher (x : BitVec 32) : BitVec 32 × BitVec 32 :=
  addKey 466689008#32 5#32 (evenRounds (addKey 42#32 466689012#32 (oddRounds (addKey 0#32 45#32 (evenRounds
    (addKey 466689008#32 2#32 (oddRounds (addKey 42#32 466689009#32 (evenRounds (0#32, x))))))))))

/-- The random word of a counter: the exclusive or of the cipher's two words. -/
def word (x : BitVec 32) : BitVec 32 := (cipher x).1 ^^^ (cipher x).2

/-- The counter word of a row and a column. -/
def counter (r n : ℕ) : BitVec 32 := BitVec.ofNat 32 (r * 100000 + n + 42)

/-! ## The fraction of a random word -/

/-- The fraction in `[0, 1)`: the word's top 23 bits as a float in `[1, 2)`, less one. -/
def frac (h : BitVec 32) : EReal := Ideal.ofBits .f32 (h >>> 9 ||| 0x3F800000#32) - Ideal.ofBits .f32 0x3F800000#32

theorem toNat_pattern (h : BitVec 32) : (h >>> 9 ||| 0x3F800000#32).toNat = 127 * 2 ^ 23 + h.toNat / 512 := by
  have hk : h.toNat / 512 < 2 ^ 23 := by have := h.isLt; omega
  rw [BitVec.toNat_or, BitVec.toNat_ushiftRight, Nat.shiftRight_eq_div_pow, Nat.or_comm]
  have e := Nat.shiftLeft_add_eq_or_of_lt hk 127
  rw [Nat.shiftLeft_eq] at e
  exact e.symm

theorem ofBits_pattern (h : BitVec 32) :
    Ideal.ofBits .f32 (h >>> 9 ||| 0x3F800000#32) = ((1 + (h.toNat / 512 : ℕ) / 2 ^ 23 : ℝ) : EReal) := by
  have hk : h.toNat / 512 < 2 ^ 23 := by have := h.isLt; omega
  have hp := toNat_pattern h
  generalize (h >>> 9 ||| 0x3F800000#32) = b at hp ⊢
  have e1 : (b.extractLsb' 31 1 == 1#1) = false := by
    rw [beq_eq_false_iff_ne]
    intro hb
    have := congrArg BitVec.toNat hb
    simp only [BitVec.extractLsb'_toNat, hp, Nat.shiftRight_eq_div_pow] at this
    simp at this
    omega
  have e2 : (b.extractLsb' 23 8).toNat = 127 := by
    simp only [BitVec.extractLsb'_toNat, hp, Nat.shiftRight_eq_div_pow]
    omega
  have e3 : (b.extractLsb' 0 23).toNat = h.toNat / 512 := by
    simp only [BitVec.extractLsb'_toNat, hp, Nat.shiftRight_eq_div_pow]
    omega
  show Ideal.ieee 8 23 b = _
  simp only [Ideal.ieee, e1, e2, e3]
  norm_num
  norm_cast
  field_simp
  try norm_num

theorem frac_eq (h : BitVec 32) : frac h = (((h.toNat / 512 : ℕ) / 2 ^ 23 : ℝ) : EReal) := by
  unfold frac
  rw [ofBits_pattern, Ideal.ofBits_one_f32, ← EReal.coe_one, ← EReal.coe_sub]
  congr 1
  ring

/-- The smallest normal float. -/
theorem ofBits_tiny : Ideal.ofBits .f32 0x00800000#32 = (((1 : ℝ) / 2 ^ 126 : ℝ) : EReal) := by
  simp [Ideal.ofBits, Ideal.ieee]
  norm_num
  norm_cast
  norm_num

/-! ## The bottom, and column numbers -/

theorem ofNat_toInt (n : ℕ) (h : n ≤ 100000) : (BitVec.ofNat 32 n).toInt = n := by
  rw [BitVec.toInt_eq_toNat_of_lt (by rw [BitVec.toNat_ofNat]; omega), BitVec.toNat_ofNat]
  omega

theorem ofBits_bot : Ideal.ofBits .f32 0xFF800000#32 = ⊥ := by
  show Ideal.ieee 8 23 0xFF800000#32 = ⊥
  unfold Ideal.ieee
  simp only
  rw [if_pos (by decide), if_pos (by decide), if_pos (by decide)]

/-! ## The noise -/

/-- What the kernel takes from a logit. -/
def noiseK (h : BitVec 32) : EReal := Ideal.log (0 - Ideal.log (frac h))

/-- What the reference adds to a logit. -/
def noiseR (h : BitVec 32) : EReal := -Ideal.log (-Ideal.log (max (frac h) (Ideal.ofBits .f32 0x00800000#32)))

theorem log_coe_pos {r : ℝ} (hr : 0 < r) : Ideal.log (r : EReal) = (Real.log r : EReal) := by
  show (if r ≤ 0 then (⊥ : EReal) else (Real.log r : EReal)) = _
  rw [if_neg (not_le.mpr hr)]

theorem log_zero : Ideal.log 0 = ⊥ := by
  show (if (0 : ℝ) ≤ 0 then (⊥ : EReal) else (Real.log 0 : EReal)) = _
  rw [if_pos le_rfl]

theorem exp_one_lt : Real.exp 1 < 2.72 := by
  have h := Real.exp_bound' (x := 1) (by norm_num) (by norm_num) (n := 5) (by norm_num)
  norm_num [Finset.sum_range_succ, Nat.factorial] at h
  linarith

theorem lt_log_two : (87 : ℝ) < 126 * Real.log 2 := by
  have h : Real.log (2 ^ 126) = 126 * Real.log 2 := by rw [Real.log_pow]; norm_num
  rw [← h, Real.lt_log_iff_exp_lt (by positivity)]
  have h1 : Real.exp 87 = Real.exp 1 ^ 87 := by rw [← Real.exp_nat_mul]; norm_num
  rw [h1]
  exact lt_of_lt_of_le (pow_lt_pow_left₀ exp_one_lt (Real.exp_pos 1).le (by norm_num)) (by norm_num)

/-- Away from the zero fraction the two noises are one real number. -/
theorem noise_eq (h : BitVec 32) (hk : h.toNat / 512 ≠ 0) :
    noiseK h = (Real.log (-Real.log ((h.toNat / 512 : ℕ) / 2 ^ 23)) : ℝ) ∧ noiseR h = (-Real.log (-Real.log ((h.toNat / 512 : ℕ) / 2 ^ 23)) : ℝ) := by
  have hlt : h.toNat / 512 < 2 ^ 23 := by have := h.isLt; omega
  have hf := frac_eq h
  generalize h.toNat / 512 = k at hk hlt hf ⊢
  have hk1 : (1 : ℝ) ≤ k := by exact_mod_cast Nat.one_le_iff_ne_zero.mpr hk
  have hk2 : (k : ℝ) < 2 ^ 23 := by exact_mod_cast hlt
  have hpos : (0 : ℝ) < k / 2 ^ 23 := by positivity
  have hone : (k : ℝ) / 2 ^ 23 < 1 := by rw [div_lt_one (by positivity)]; exact hk2
  have hlog : 0 < -Real.log ((k : ℝ) / 2 ^ 23) := by have := Real.log_neg hpos hone; linarith
  have hmax : max ((((k : ℝ) / 2 ^ 23 : ℝ)) : EReal) (((1 : ℝ) / 2 ^ 126 : ℝ) : EReal) = (((k : ℝ) / 2 ^ 23 : ℝ) : EReal) := by
    apply max_eq_left
    rw [EReal.coe_le_coe_iff]
    rw [div_le_div_iff₀ (by positivity) (by positivity)]
    nlinarith
  refine ⟨?_, ?_⟩
  · unfold noiseK
    rw [hf, log_coe_pos hpos, zero_sub, ← EReal.coe_neg, log_coe_pos hlog]
  · unfold noiseR
    rw [hf, ofBits_tiny, hmax, log_coe_pos hpos, ← EReal.coe_neg, log_coe_pos hlog, ← EReal.coe_neg]

/-- At the zero fraction the kernel takes the whole line away. -/
theorem noiseK_zero (h : BitVec 32) (hk : h.toNat / 512 = 0) : noiseK h = ⊤ := by
  unfold noiseK
  have h0 : frac h = 0 := by rw [frac_eq, hk]; simp
  rw [h0, log_zero, zero_sub, EReal.neg_bot]
  rfl

/-- At the zero fraction the reference's noise is a real number under `-17/4`. -/
theorem noiseR_zero (h : BitVec 32) (hk : h.toNat / 512 = 0) : ∃ g : ℝ, noiseR h = (g : EReal) ∧ g < -(17 / 4) := by
  have hmax : max (frac h) (((1 : ℝ) / 2 ^ 126 : ℝ) : EReal) = (((1 : ℝ) / 2 ^ 126 : ℝ) : EReal) := by
    rw [frac_eq, hk]
    apply max_eq_right
    rw [EReal.coe_le_coe_iff]
    norm_num
  have hl : -Real.log ((1 : ℝ) / 2 ^ 126) = 126 * Real.log 2 := by
    rw [one_div, Real.log_inv, Real.log_pow]
    push_cast
    ring
  have h2 := lt_log_two
  have hpos : 0 < -Real.log ((1 : ℝ) / 2 ^ 126) := by rw [hl]; linarith
  refine ⟨-Real.log (-Real.log ((1 : ℝ) / 2 ^ 126)), ?_, ?_⟩
  · unfold noiseR
    rw [ofBits_tiny, hmax, log_coe_pos (by positivity), ← EReal.coe_neg, log_coe_pos hpos, ← EReal.coe_neg]
  · rw [neg_lt_neg_iff, Real.lt_log_iff_exp_lt hpos, hl]
    have he : Real.exp (17 / 4) < 87 := by
      have h4 : Real.exp (17 / 4) ^ 4 = Real.exp 1 ^ 17 := by
        rw [← Real.exp_nat_mul, ← Real.exp_nat_mul]; norm_num
      have he1 := exp_one_lt
      have hp : Real.exp 1 ^ 17 < 87 ^ 4 :=
        lt_of_lt_of_le (pow_lt_pow_left₀ he1 (Real.exp_pos 1).le (by norm_num)) (by norm_num)
      exact lt_of_pow_lt_pow_left₀ 4 (by norm_num) (by rw [h4]; exact hp)
    linarith

/-- A fraction within `450 / 2^23` of one gives noise over `39/4`. -/
theorem noiseR_large (h : BitVec 32) (hk : 2 ^ 23 - 450 ≤ h.toNat / 512) : ∃ g : ℝ, noiseR h = (g : EReal) ∧ 39 / 4 ≤ g := by
  have hk0 : h.toNat / 512 ≠ 0 := by omega
  refine ⟨_, (noise_eq h hk0).2, ?_⟩
  have hlt : h.toNat / 512 < 2 ^ 23 := by have := h.isLt; omega
  generalize h.toNat / 512 = k at hk hlt ⊢
  have hk1 : (8388158 : ℝ) ≤ k := by
    have : 8388158 ≤ k := by omega
    exact_mod_cast this
  have hk2 : (k : ℝ) < 2 ^ 23 := by exact_mod_cast hlt
  have hkp : (0 : ℝ) < k := by linarith
  have hpos : (0 : ℝ) < k / 2 ^ 23 := by positivity
  have hone : (k : ℝ) / 2 ^ 23 < 1 := by rw [div_lt_one (by positivity)]; exact hk2
  have hlog : 0 < -Real.log ((k : ℝ) / 2 ^ 23) := by have := Real.log_neg hpos hone; linarith
  have hsmall : -Real.log ((k : ℝ) / 2 ^ 23) ≤ 1 / 18640 := by
    rw [← Real.log_inv]
    refine (Real.log_le_sub_one_of_pos (by positivity)).trans ?_
    rw [inv_div, sub_le_iff_le_add, div_le_iff₀ hkp]
    norm_num
    linarith
  have he : Real.exp (39 / 4) ≤ 18640 := by
    have h4 : Real.exp (39 / 4) ^ 4 = Real.exp 1 ^ 39 := by
      rw [← Real.exp_nat_mul, ← Real.exp_nat_mul]; norm_num
    have he1 := exp_one_lt
    have hp : Real.exp 1 ^ 39 ≤ 18640 ^ 4 :=
      (pow_le_pow_left₀ (Real.exp_pos 1).le he1.le 39).trans (by norm_num)
    exact le_of_pow_le_pow_left₀ (n := 4) (by norm_num) (by norm_num) (by rw [h4]; exact hp)
  rw [le_neg, Real.log_le_iff_le_exp hlog, Real.exp_neg]
  refine hsmall.trans ?_
  rw [one_div]
  exact inv_anti₀ (Real.exp_pos _) he

/-! ## The scores -/

/-- The kernel's score of a logit. -/
def scoreK (l : EReal) (h : BitVec 32) : EReal := l - noiseK h

/-- The reference's score of a logit. -/
def scoreR (l : EReal) (h : BitVec 32) : EReal := noiseR h + l

theorem score_eq (l : EReal) (h : BitVec 32) (hk : h.toNat / 512 ≠ 0) : scoreK l h = scoreR l h := by
  unfold scoreK scoreR
  rw [(noise_eq h hk).1, (noise_eq h hk).2, sub_eq_add_neg, ← EReal.coe_neg, add_comm]

theorem scoreK_zero (l : EReal) (h : BitVec 32) (hk : h.toNat / 512 = 0) : scoreK l h = ⊥ := by
  unfold scoreK
  rw [noiseK_zero h hk, sub_eq_add_neg, EReal.neg_top, EReal.add_bot]

theorem scoreR_zero (l : ℝ) (hl : l ≤ 7) (h : BitVec 32) (hk : h.toNat / 512 = 0) : scoreR l h < ((11 / 4 : ℝ) : EReal) := by
  obtain ⟨g, hg, hg'⟩ := noiseR_zero h hk
  unfold scoreR
  rw [hg, ← EReal.coe_add, EReal.coe_lt_coe_iff]
  linarith

theorem scoreR_large (l : ℝ) (hl : -7 ≤ l) (h : BitVec 32) (hk : 2 ^ 23 - 450 ≤ h.toNat / 512) :
    ((11 / 4 : ℝ) : EReal) ≤ scoreR l h := by
  obtain ⟨g, hg, hg'⟩ := noiseR_large h hk
  unfold scoreR
  rw [hg, ← EReal.coe_add, EReal.coe_le_coe_iff]
  linarith

end Cert.Proof

end
-- ==== Proof.Cipher.lean ====
/- The cipher on vectors of counter words, as both programs write it, and its reading at one index. -/
module

public import proofs.«01_k».proof.Proof.Draw

@[expose] public section

noncomputable section

namespace Cert.Proof

open Idealize.ShloMosaic

variable {s : Shape} (shl shr : IVec s 32 → IVec s 32 → IVec s 32) (c : BitVec 32 → IVec s 32)

/-- The second half of a round: the second word turned and combined with the sum. -/
def vmix (a b : BitVec 32) (p : IVec s 32 × IVec s 32) : IVec s 32 × IVec s 32 :=
  (p.1, xori (ori (shl p.2 (c a)) (shr p.2 (c b))) p.1)

/-- The first half of a round: the sum. -/
def vsum (p : IVec s 32 × IVec s 32) : IVec s 32 × IVec s 32 := (addi p.1 p.2, p.2)

def vkey (a b : BitVec 32) (p : IVec s 32 × IVec s 32) : IVec s 32 × IVec s 32 := (addi p.1 (c a), addi p.2 (c b))

/-- Four rounds whose first sum is already taken. -/
def vevenRounds (p : IVec s 32 × IVec s 32) : IVec s 32 × IVec s 32 :=
  vmix shl shr c 6#32 26#32 (vsum (vmix shl shr c 26#32 6#32 (vsum (vmix shl shr c 15#32 17#32 (vsum (vmix shl shr c 13#32 19#32 p))))))

/-- The other four rounds, the first sum already taken. -/
def voddRounds (p : IVec s 32 × IVec s 32) : IVec s 32 × IVec s 32 :=
  vmix shl shr c 24#32 8#32 (vsum (vmix shl shr c 16#32 16#32 (vsum (vmix shl shr c 29#32 3#32 (vsum (vmix shl shr c 17#32 15#32 p))))))

/-- The cipher, from a pair whose first sum is taken; `z` is what is done with the key word that is zero. -/
def vcipher (z : IVec s 32 → IVec s 32) (p : IVec s 32 × IVec s 32) : IVec s 32 × IVec s 32 :=
  let p1 := vkey c 42#32 466689009#32 (vevenRounds shl shr c p)
  let p2 := vkey c 466689008#32 2#32 (voddRounds shl shr c (vsum p1))
  let q := vevenRounds shl shr c (vsum p2)
  let p3 := (z q.1, addi q.2 (c 45#32))
  let p4 := vkey c 42#32 466689012#32 (voddRounds shl shr c (vsum p3))
  vkey c 466689008#32 5#32 (vevenRounds shl shr c (vsum p4))

/-- What the two programs' shifts and constants are at an index. -/
structure Pointwise : Prop where
  shl : ∀ (y : IVec s 32) (a : ℕ), a < 32 → ∀ i, shl y (c (BitVec.ofNat 32 a)) i = y i <<< a
  shr : ∀ (y : IVec s 32) (a : ℕ), a < 32 → ∀ i, shr y (c (BitVec.ofNat 32 a)) i = y i >>> a
  cst : ∀ k i, c k i = k

variable {shl shr c}

/-- A pair of vectors at an index. -/
def at2 (p : IVec s 32 × IVec s 32) (i : s.Idx) : BitVec 32 × BitVec 32 := (p.1 i, p.2 i)

theorem at2_vmix (h : Pointwise shl shr c) (a b : ℕ) (ha : a < 32) (hb : b < 32) (p : IVec s 32 × IVec s 32) (i : s.Idx) :
    at2 (vmix shl shr c (BitVec.ofNat 32 a) (BitVec.ofNat 32 b) p) i = (p.1 i, turn a b (p.2 i) ^^^ p.1 i) := by
  show (p.1 i, (shl p.2 (c (BitVec.ofNat 32 a)) i ||| shr p.2 (c (BitVec.ofNat 32 b)) i) ^^^ p.1 i) = _
  rw [h.shl _ a ha, h.shr _ b hb]
  rfl

theorem at2_vround (h : Pointwise shl shr c) (a b : ℕ) (ha : a < 32) (hb : b < 32) (p : IVec s 32 × IVec s 32) (i : s.Idx) :
    at2 (vmix shl shr c (BitVec.ofNat 32 a) (BitVec.ofNat 32 b) (vsum p)) i = round a b (at2 p i) :=
  at2_vmix h a b ha hb (vsum p) i

theorem at2_vkey (h : Pointwise shl shr c) (a b : BitVec 32) (p : IVec s 32 × IVec s 32) (i : s.Idx) :
    at2 (vkey c a b p) i = addKey a b (at2 p i) := by
  show (p.1 i + c a i, p.2 i + c b i) = _
  rw [h.cst, h.cst]
  rfl

theorem at2_vevenRounds (h : Pointwise shl shr c) (p : IVec s 32 × IVec s 32) (i : s.Idx) (q : BitVec 32 × BitVec 32)
    (hq : (p.1 i, turn 13 19 (p.2 i) ^^^ p.1 i) = round 13 19 q) : at2 (vevenRounds shl shr c p) i = evenRounds q := by
  unfold vevenRounds evenRounds
  rw [at2_vround h 6 26 (by decide) (by decide), at2_vround h 26 6 (by decide) (by decide),
    at2_vround h 15 17 (by decide) (by decide), at2_vmix h 13 19 (by decide) (by decide), hq]

theorem at2_voddRounds (h : Pointwise shl shr c) (p : IVec s 32 × IVec s 32) (i : s.Idx) :
    at2 (voddRounds shl shr c (vsum p)) i = oddRounds (at2 p i) := by
  unfold voddRounds oddRounds
  rw [at2_vround h 24 8 (by decide) (by decide), at2_vround h 16 16 (by decide) (by decide),
    at2_vround h 29 3 (by decide) (by decide), at2_vround h 17 15 (by decide) (by decide)]

/-- The cipher at an index is the cipher of the word there. -/
theorem at2_vcipher (h : Pointwise shl shr c) (z : IVec s 32 → IVec s 32) (hz : ∀ x i, z x i = x i)
    (p : IVec s 32 × IVec s 32) (i : s.Idx) (hp : p.1 i = p.2 i) :
    at2 (vcipher shl shr c z p) i = cipher (p.2 i) := by
  unfold vcipher cipher
  have h3 : ∀ q : IVec s 32 × IVec s 32, at2 (z q.1, addi q.2 (c 45#32)) i = addKey 0#32 45#32 (at2 q i) := fun q => by
    show (z q.1 i, q.2 i + c 45#32 i) = (q.1 i + 0#32, q.2 i + 45#32)
    rw [hz, h.cst, BitVec.add_zero]
  have hr : ∀ q : IVec s 32 × IVec s 32, at2 (vevenRounds shl shr c (vsum q)) i = evenRounds (at2 q i) := fun q =>
    at2_vevenRounds h (vsum q) i (at2 q i) rfl
  have h0 : at2 (vevenRounds shl shr c p) i = evenRounds (0#32, p.2 i) := at2_vevenRounds h p i _ (by
    show _ = (0#32 + p.2 i, turn 13 19 (p.2 i) ^^^ (0#32 + p.2 i))
    rw [hp, BitVec.zero_add])
  simp only [at2_vkey h, hr, at2_voddRounds h, h3, h0]

/-- The word of a counter, from the cipher's two words. -/
theorem xori_vcipher (h : Pointwise shl shr c) (z : IVec s 32 → IVec s 32) (hz : ∀ x i, z x i = x i)
    (p : IVec s 32 × IVec s 32) (i : s.Idx) (hp : p.1 i = p.2 i) :
    xori (vcipher shl shr c z p).1 (vcipher shl shr c z p).2 i = word (p.2 i) := by
  have e := at2_vcipher h z hz p i hp
  show (at2 (vcipher shl shr c z p) i).1 ^^^ (at2 (vcipher shl shr c z p) i).2 = _
  rw [e]
  rfl

end Cert.Proof

end
-- ==== Proof.KernelFold.lean ====
/- What the kernel's body leaves in its two carried buffers, as a fold over its steps. -/
module

public import proofs.«01_k».proof.Proof.Cipher
public import proofs.«01_k».proof.Proof.Gen.KernelIdeal.Frame

@[expose] public section

noncomputable section

namespace Cert.Proof

open Cert.KernelIdeal Cert.KernelIdeal.Gen Idealize.ShloMosaic Idealize.ShloMosaic.TcCoe

variable {F : FTy → Type} [FloatOps F]

/-- An integer constant of the kernel, at every index. -/
def kcst (k : BitVec 32) : IVec S80x128 32 := broadcast S80x128 k

/-- Eighty rows' counter words, the first key in them; `row` is the first row's number and the key together. -/
def kcounter (base row : BitVec 32) : IVec S80x128 32 :=
  addi (addi (muli (iota .tc S80x128 32 [1] iota_S80x128_d1_w32) (broadcast S80x128 100000#32))
    (iota .tc S80x128 32 [0] iota_S80x128_d0_w32)) (broadcast S80x128 (Scalar.addi base row))

/-- Eighty rows' random words. -/
def kword (x : IVec S80x128 32) : IVec S80x128 32 :=
  xori (vcipher shli shrui kcst id (x, x)).1 (vcipher shli shrui kcst id (x, x)).2

/-- Eighty rows' scores, from the logits as loaded and the random words. -/
def kscore (l : Vec F S80x128 .f32) (w : IVec S80x128 32) : FVec F S80x128 .f32 :=
  subf (shapeCast S80x128 l shapeCasts_S80x128_S80x128)
    (log (subf (broadcast S80x128 (Scalar.ofBits .f32 0x00000000#32))
      (log (subf (bitcastToFloat .f32 (ori (shrui w (kcst 9#32)) (kcst 1065353216#32)))
        (broadcast S80x128 (Scalar.ofBits .f32 0x3F800000#32))))))

theorem slab_slices (k : ℕ) : S80x128.Slices ![8 * (k % 10), 0] S8x128 :=
  ⟨rfl, fun a => by
    match a with
    | 0 => show 8 * (k % 10) + 8 ≤ 80; omega
    | 1 => show 0 + 128 ≤ 128; omega⟩

theorem load_inb (n : ℕ) : ∀ a, (![80 * (n % 125), 0] : Fin 2 → ℕ) a + S80x128.size a ≤ S10000x128.size a := fun a => by
  match a with
  | 0 => show 80 * (n % 125) + 80 ≤ 10000; omega
  | 1 => show 0 + 128 ≤ 128; omega

/-- One slab of eight rows taken into the running maxima and their positions. -/
def slabStep (base : BitVec 32) (score : FVec F S80x128 .f32) (row : ℕ) (k : ℕ) (p : FVec F S8x128 .f32 × IVec S8x128 32) :
    FVec F S8x128 .f32 × IVec S8x128 32 :=
  (maximumf p.1 (extractStridedSlice S8x128 ![8 * (k % 10), 0] score (slab_slices k)),
    select (cmpf .ogt (extractStridedSlice S8x128 ![8 * (k % 10), 0] score (slab_slices k)) p.1)
      (addi (iota .tc S8x128 32 [0] iota_S8x128_d0_w32) (broadcast S8x128 (Scalar.addi base (BitVec.ofNat 32 (row + 8 * k))))) p.2)

/-- One step: eighty rows taken in, slab by slab. -/
def step (base : BitVec 32) (load : ℕ → Vec F S80x128 .f32) (n : ℕ) (p : FVec F S8x128 .f32 × IVec S8x128 32) :
    FVec F S8x128 .f32 × IVec S8x128 32 :=
  Nat.rec (motive := fun _ => FVec F S8x128 .f32 × IVec S8x128 32) p
    (fun k q => slabStep base (kscore (load n) (kword (kcounter base (BitVec.ofNat 32 (80 * n + 42))))) (80 * n) k q) 10

/-- The first `N` steps. -/
def steps (base : BitVec 32) (load : ℕ → Vec F S80x128 .f32) (p : FVec F S8x128 .f32 × IVec S8x128 32) (N : ℕ) :
    FVec F S8x128 .f32 × IVec S8x128 32 :=
  Nat.rec (motive := fun _ => FVec F S8x128 .f32 × IVec S8x128 32) p (fun n q => step base load n q) N

/-- The eighty rows a step loads. -/
def rows (arg1 : Memref sig .tc .vmem S10000x128 .f32) (harg1 : arg1.IsWhole) (x0 : Vec F S10000x128 .f32) (n : ℕ) :
    Vec F S80x128 .f32 :=
  View.readAt (Elt F) arg1.view (Rect.unit (s := S10000x128) ![80 * (n % 125), 0] S80x128.size (load_inb n)).toLoadRect (harg1.unread x0)

/-- A point's first row number. -/
def base (i : grid0.Coords) : BitVec 32 := Scalar.muli (BitVec.ofNat 32 (i 0)) 10000#32

/-- The pair a point starts from, as its two loads find it. -/
def start (arg3 : Memref sig .tc .vmem S8x128 .f32) (harg3 : arg3.IsWhole) (arg4 : Memref sig .tc .vmem S8x128 .i32) (harg4 : arg4.IsWhole)
    (xs0 : Vec F S8x128 .f32) (xs1 : Vec F S8x128 .i32) : FVec F S8x128 .f32 × IVec S8x128 32 :=
  (View.readAt (Elt F) arg3.view (Rect.unit ![0, 0] S8x128.size inb_S8x128_S8x128_0_0).toLoadRect (harg3.unread xs0),
    View.readAt (Elt F) arg4.view (Rect.unit ![0, 0] S8x128.size inb_S8x128_S8x128_0_0).toLoadRect (harg4.unread xs1))

/-- A load of all of a carried buffer. -/
abbrev whole : Rect S8x128 := Rect.unit ![0, 0] S8x128.size inb_S8x128_S8x128_0_0

/-- The pair the first point starts from, as its two loads find it after its two stores. -/
def startA (arg3 : Memref sig .tc .vmem S8x128 .f32) (arg4 : Memref sig .tc .vmem S8x128 .i32) : FVec F S8x128 .f32 × IVec S8x128 32 :=
  (arg3.view.readCov ([⟨whole, k0_pay4⟩] : List (View.Piece (Elt F) S8x128 .f32)) whole.toLoadRect,
    arg4.view.readCov ([⟨whole, k0_pay5⟩] : List (View.Piece (Elt F) S8x128 .i32)) whole.toLoadRect)

/-- The maxima as stored. -/
def stored0 (p : FVec F S8x128 .f32 × IVec S8x128 32) : FVec F S8x128 .f32 := shapeCast S8x128 p.1 shapeCasts_S8x128_S8x128

/-- The positions as stored. -/
def stored1 (p : FVec F S8x128 .f32 × IVec S8x128 32) : IVec S8x128 32 := shapeCast S8x128 p.2 shapeCasts_S8x128_S8x128

section Runs

variable (c : Dev nD) (i : grid0.Coords) (arg1 : Memref sig .tc .vmem S10000x128 .f32) (harg1 : arg1.IsWhole) (arg2 : Memref sig .tc .vmem S1x128 .i32)
  (harg2 : arg2.IsWhole) (arg3 : Memref sig .tc .vmem S8x128 .f32) (harg3 : arg3.IsWhole) (arg4 : Memref sig .tc .vmem S8x128 .i32) (harg4 : arg4.IsWhole)
  (x0 : Vec F S10000x128 .f32) (xs0 : Vec F S8x128 .f32) (xs1 : Vec F S8x128 .i32)

/-! The stores of the three kinds of point, in closed form. -/

theorem run_A_0 (hc0 : cond0_0 i) (hc1 : ¬cond0_1 i) :
    (kernelRun0_A c i arg1 harg1 arg2 harg2 arg3 harg3 arg4 harg4 hc0 hc1 x0).2.1 =
      [⟨whole, stored0 (steps (base i) (rows arg1 harg1 x0) (startA arg3 arg4) 125)⟩, ⟨whole, k0_pay4⟩] := by
  sl_kernel_rfl

theorem run_A_1 (hc0 : cond0_0 i) (hc1 : ¬cond0_1 i) :
    (kernelRun0_A c i arg1 harg1 arg2 harg2 arg3 harg3 arg4 harg4 hc0 hc1 x0).2.2.1 =
      [⟨whole, stored1 (steps (base i) (rows arg1 harg1 x0) (startA arg3 arg4) 125)⟩, ⟨whole, k0_pay5⟩] := by
  sl_kernel_rfl

theorem run_B_0 (hc0 : ¬cond0_0 i) (hc1 : ¬cond0_1 i) :
    (kernelRun0_B c i arg1 harg1 arg2 harg2 arg3 harg3 arg4 harg4 hc0 hc1 x0 xs0 xs1).2.1 =
      [⟨whole, stored0 (steps (base i) (rows arg1 harg1 x0) (start arg3 harg3 arg4 harg4 xs0 xs1) 125)⟩] := by
  sl_kernel_rfl

theorem run_B_1 (hc0 : ¬cond0_0 i) (hc1 : ¬cond0_1 i) :
    (kernelRun0_B c i arg1 harg1 arg2 harg2 arg3 harg3 arg4 harg4 hc0 hc1 x0 xs0 xs1).2.2.1 =
      [⟨whole, stored1 (steps (base i) (rows arg1 harg1 x0) (start arg3 harg3 arg4 harg4 xs0 xs1) 125)⟩] := by
  sl_kernel_rfl

theorem run_C_0 (hc0 : ¬cond0_0 i) (hc1 : cond0_1 i) :
    (kernelRun0_C c i arg1 harg1 arg2 harg2 arg3 harg3 arg4 harg4 hc0 hc1 x0 xs0 xs1).2.1 =
      [⟨whole, stored0 (steps (base i) (rows arg1 harg1 x0) (start arg3 harg3 arg4 harg4 xs0 xs1) 125)⟩] := by
  sl_kernel_rfl

theorem run_C_1 (hc0 : ¬cond0_0 i) (hc1 : cond0_1 i) :
    (kernelRun0_C c i arg1 harg1 arg2 harg2 arg3 harg3 arg4 harg4 hc0 hc1 x0 xs0 xs1).2.2.1 =
      [⟨whole, stored1 (steps (base i) (rows arg1 harg1 x0) (start arg3 harg3 arg4 harg4 xs0 xs1) 125)⟩] := by
  sl_kernel_rfl

theorem run_C_out (hc0 : ¬cond0_0 i) (hc1 : cond0_1 i) :
    (kernelRun0_C c i arg1 harg1 arg2 harg2 arg3 harg3 arg4 harg4 hc0 hc1 x0 xs0 xs1).1 =
      [⟨Rect.unit ![0, 0] S1x128.size inb_S1x128_S1x128_0_0,
        k0_pay3 (arg3.view.readCov [⟨whole, stored0 (steps (base i) (rows arg1 harg1 x0) (start arg3 harg3 arg4 harg4 xs0 xs1) 125)⟩] whole.toLoadRect)
          (arg3.view.readCov [⟨whole, stored0 (steps (base i) (rows arg1 harg1 x0) (start arg3 harg3 arg4 harg4 xs0 xs1) 125)⟩] whole.toLoadRect)
          (arg4.view.readCov ([⟨whole, stored1 (steps (base i) (rows arg1 harg1 x0) (start arg3 harg3 arg4 harg4 xs0 xs1) 125)⟩] : List (View.Piece (Elt F) S8x128 .i32)) whole.toLoadRect)⟩] := by
  sl_kernel_rfl

end Runs

end Cert.Proof

end
-- ==== Proof.KernelOut.lean ====
/- What each kind of point leaves in the two carried buffers and in the output, with no memory views in it. -/
module

public import proofs.«01_k».proof.Proof.KernelFold
public import Idealize.ShloMosaic.Lib.Pipeline.ValueKit
public import Idealize.ShloMosaic.Lib.WholeRead

@[expose] public section

noncomputable section

namespace Cert.Proof

open Cert.KernelIdeal Cert.KernelIdeal.Gen Idealize.ShloMosaic Idealize.ShloMosaic.TcCoe

variable {F : FTy → Type} [FloatOps F]

theorem zero_off : ∀ a : Fin 2, (![0, 0] : Fin 2 → ℕ) a = 0 := by decide

theorem stored0_eq (p : FVec F S8x128 .f32 × IVec S8x128 32) : stored0 p = p.1 := shapeCast_self _ _

theorem stored1_eq (p : FVec F S8x128 .f32 × IVec S8x128 32) : stored1 p = p.2 := shapeCast_self _ _

/-- A row and a lane of the point's block. -/
def blockIdx (r : ℕ) (hr : r < 10000) (l : Fin 128) : S10000x128.Idx := fun a =>
  match a with
  | 0 => ⟨r, hr⟩
  | 1 => l

/-- The rows a step loads are the block's. -/
theorem rows_apply (arg1 : Memref sig .tc .vmem S10000x128 .f32) (harg1 : arg1.IsWhole) (x0 : Vec F S10000x128 .f32) (n : ℕ) (hn : n < 125)
    (y : S80x128.Idx) : rows arg1 harg1 x0 n y = x0 (blockIdx (80 * n + (y 0).val) (by have : (y 0).val < 80 := (y 0).isLt; omega) (y 1)) := by
  unfold rows
  refine (harg1.readAt_unread x0 (Rect.unit (s := S10000x128) ![80 * (n % 125), 0] S80x128.size (load_inb n)).toLoadRect y).trans (congrArg x0 (funext fun a => Fin.ext ?_))
  match a with
  | 0 => show 80 * (n % 125) + 1 * (y 0).val = 80 * n + (y 0).val; omega
  | 1 => show 0 + 1 * (y 1).val = (y 1).val; omega

theorem start_eq (arg3 : Memref sig .tc .vmem S8x128 .f32) (harg3 : arg3.IsWhole) (arg4 : Memref sig .tc .vmem S8x128 .i32) (harg4 : arg4.IsWhole)
    (xs0 : Vec F S8x128 .f32) (xs1 : Vec F S8x128 .i32) : start arg3 harg3 arg4 harg4 xs0 xs1 = (xs0, xs1) := by
  unfold start
  rw [View.readAt_eq_ld, View.readAt_eq_ld, harg3.read_unread, harg4.read_unread, View.ld_unit_lit _ _ zero_off, View.ld_unit_lit _ _ zero_off]

theorem startA_eq (arg3 : Memref sig .tc .vmem S8x128 .f32) (arg4 : Memref sig .tc .vmem S8x128 .i32) :
    startA (F := F) arg3 arg4 = (fun _ => Scalar.ofBits .f32 0xFF800000#32, fun _ => 0#32) := by
  unfold startA whole
  rw [View.readCov_unit_lit _ _ _ zero_off, View.readCov_unit_lit _ _ _ zero_off]
  unfold k0_pay4 k0_pay5
  rfl

/-- A carried buffer whose last store was of all of it reads that store's payload. -/
theorem read_stored {e : EltTy} {sp : Space} (v : View sig .tc sp S8x128 e) (L L' : List (View.Piece (Elt F) S8x128 e)) (w : S8x128.Idx → Elt F e)
    (h : L = ⟨whole, w⟩ :: L') : v.read (Elt F) (v.writes (Elt F) v.junk L) = w := by
  rw [View.read_writes_junk_eq_canon, h]
  exact View.canon_cons_unit_lit _ _ _ zero_off

section Outs

variable (c : Dev nD) (i : grid0.Coords) (arg1 : Memref sig .tc .vmem S10000x128 .f32) (harg1 : arg1.IsWhole) (arg2 : Memref sig .tc .vmem S1x128 .i32)
  (harg2 : arg2.IsWhole) (arg3 : Memref sig .tc .vmem S8x128 .f32) (harg3 : arg3.IsWhole) (arg4 : Memref sig .tc .vmem S8x128 .i32) (harg4 : arg4.IsWhole)
  (x0 : Vec F S10000x128 .f32) (xs0 : Vec F S8x128 .f32) (xs1 : Vec F S8x128 .i32)

theorem sout_A (hc0 : cond0_0 i) (hc1 : ¬cond0_1 i) :
    (sout0_A_0 c i arg1 harg1 arg2 harg2 arg3 harg3 arg4 harg4 hc0 hc1 x0, sout0_A_1 c i arg1 harg1 arg2 harg2 arg3 harg3 arg4 harg4 hc0 hc1 x0) =
      steps (base i) (rows arg1 harg1 x0) (fun _ => Scalar.ofBits .f32 0xFF800000#32, fun _ => 0#32) 125 := by
  have e0 : sout0_A_0 c i arg1 harg1 arg2 harg2 arg3 harg3 arg4 harg4 hc0 hc1 x0 = _ :=
    read_stored VS0_0 _ _ _ (run_A_0 c i arg1 harg1 arg2 harg2 arg3 harg3 arg4 harg4 x0 hc0 hc1)
  have e1 : sout0_A_1 c i arg1 harg1 arg2 harg2 arg3 harg3 arg4 harg4 hc0 hc1 x0 = _ :=
    read_stored VS0_1 _ _ _ (run_A_1 c i arg1 harg1 arg2 harg2 arg3 harg3 arg4 harg4 x0 hc0 hc1)
  rw [e0, e1, stored0_eq, stored1_eq, startA_eq]

theorem sout_B (hc0 : ¬cond0_0 i) (hc1 : ¬cond0_1 i) :
    (sout0_B_0 c i arg1 harg1 arg2 harg2 arg3 harg3 arg4 harg4 hc0 hc1 x0 xs0 xs1,
        sout0_B_1 c i arg1 harg1 arg2 harg2 arg3 harg3 arg4 harg4 hc0 hc1 x0 xs0 xs1) =
      steps (base i) (rows arg1 harg1 x0) (xs0, xs1) 125 := by
  have e0 : sout0_B_0 c i arg1 harg1 arg2 harg2 arg3 harg3 arg4 harg4 hc0 hc1 x0 xs0 xs1 = _ :=
    read_stored VS0_0 _ _ _ (run_B_0 c i arg1 harg1 arg2 harg2 arg3 harg3 arg4 harg4 x0 xs0 xs1 hc0 hc1)
  have e1 : sout0_B_1 c i arg1 harg1 arg2 harg2 arg3 harg3 arg4 harg4 hc0 hc1 x0 xs0 xs1 = _ :=
    read_stored VS0_1 _ _ _ (run_B_1 c i arg1 harg1 arg2 harg2 arg3 harg3 arg4 harg4 x0 xs0 xs1 hc0 hc1)
  rw [e0, e1, stored0_eq, stored1_eq, start_eq]

theorem out_C (hc0 : ¬cond0_0 i) (hc1 : cond0_1 i) :
    out0_C_1 c i arg1 harg1 arg2 harg2 arg3 harg3 arg4 harg4 hc0 hc1 x0 xs0 xs1 =
      k0_pay3 (steps (base i) (rows arg1 harg1 x0) (xs0, xs1) 125).1 (steps (base i) (rows arg1 harg1 x0) (xs0, xs1) 125).1
        (steps (base i) (rows arg1 harg1 x0) (xs0, xs1) 125).2 := by
  have e := (View.read_writes_junk_eq_canon VO0_1 _).trans
    (congrArg View.canon (run_C_out c i arg1 harg1 arg2 harg2 arg3 harg3 arg4 harg4 x0 xs0 xs1 hc0 hc1))
  rw [View.canon_cons_unit_lit _ _ _ zero_off, View.readCov_unit_lit _ _ _ zero_off,
    View.readCov_unit_lit _ _ _ zero_off, stored0_eq, stored1_eq, start_eq] at e
  exact e

end Outs

end Cert.Proof

end
-- ==== Proof.Pick.lean ====
/- The first maximum of a row, and a running maximum with its position. -/
module

public import Idealize.ShloMosaic.PureOps
public import Idealize.ShloMosaic.Lib.IdealHost

@[expose] public section

noncomputable section

namespace Cert.Proof

open Idealize.ShloMosaic

/-! ## Folds of maxima and of signed minima -/

theorem foldl_max_eq {ι : Type} (g : ι → EReal) (B : EReal) (L : List ι) (init : EReal) (hi : init ≤ B) (hb : ∀ n ∈ L, g n ≤ B)
    (hx : init = B ∨ ∃ n ∈ L, g n = B) : L.foldl (fun r n => max r (g n)) init = B := by
  induction L generalizing init with
  | nil => simpa using hx
  | cons a L ih =>
    rw [List.foldl_cons]
    have ha := hb a List.mem_cons_self
    refine ih _ (max_le hi ha) (fun n hn => hb n (List.mem_cons_of_mem _ hn)) ?_
    rcases hx with rfl | ⟨n, hn, e⟩
    · exact .inl (max_eq_left ha)
    · rcases List.mem_cons.mp hn with rfl | hn
      · exact .inl (by rw [e]; exact max_eq_right hi)
      · exact .inr ⟨n, hn, e⟩

theorem minsi_toInt (x y : BitVec 32) : (IntOp.minsi x y).toInt = min x.toInt y.toInt := by
  unfold IntOp.minsi
  by_cases h : x.toInt < y.toInt
  · rw [if_pos (by rw [BitVec.slt_iff_toInt_lt]; exact h), min_eq_left h.le]
  · rw [if_neg (by rw [BitVec.slt_iff_toInt_lt]; exact h), min_eq_right (not_lt.mp h)]

theorem foldl_minsi_eq {ι : Type} (g : ι → BitVec 32) (w : BitVec 32) (L : List ι) (init : BitVec 32) (hi : w.toInt ≤ init.toInt)
    (hb : ∀ n ∈ L, w.toInt ≤ (g n).toInt) (hx : init = w ∨ ∃ n ∈ L, g n = w) :
    L.foldl (fun r n => IntOp.minsi r (g n)) init = w := by
  induction L generalizing init with
  | nil => simpa using hx
  | cons a L ih =>
    rw [List.foldl_cons]
    have ha := hb a List.mem_cons_self
    refine ih _ (by rw [minsi_toInt]; exact le_min hi ha) (fun n hn => hb n (List.mem_cons_of_mem _ hn)) ?_
    rcases hx with rfl | ⟨n, hn, e⟩
    · exact .inl (BitVec.toInt_inj.mp (by rw [minsi_toInt]; exact min_eq_left ha))
    · rcases List.mem_cons.mp hn with rfl | hn
      · exact .inl (BitVec.toInt_inj.mp (by rw [minsi_toInt, e]; exact min_eq_right hi))
      · exact .inr ⟨n, hn, e⟩

/-- A reduction by maximum at an index, from the greatest entry reduced to it. -/
theorem reduce_max_eq {s t : Shape} (d : s.Idx → t.Idx) (x : s.Idx → EReal) (init B : EReal) (j : t.Idx) (hi : init ≤ B)
    (hb : ∀ i, d i = j → x i ≤ B) (hx : ∃ i, d i = j ∧ x i = B) :
    ((List.finRange s.numel).filter fun n => d (s.rowMajor.symm n) = j).foldl (fun r n => max r (x (s.rowMajor.symm n))) init = B := by
  refine foldl_max_eq (fun n => x (s.rowMajor.symm n)) B _ init hi (fun n hn => hb _ ?_) (.inr ?_)
  · simpa using (List.mem_filter.mp hn).2
  · obtain ⟨i, e, e'⟩ := hx
    exact ⟨s.rowMajor i, List.mem_filter.mpr ⟨List.mem_finRange _, by simpa using e⟩, by simpa using e'⟩

/-- A reduction by signed minimum at an index, from the least entry reduced to it. -/
theorem reduce_minsi_eq {s t : Shape} (d : s.Idx → t.Idx) (x : s.Idx → BitVec 32) (init w : BitVec 32) (j : t.Idx)
    (hi : w.toInt ≤ init.toInt) (hb : ∀ i, d i = j → w.toInt ≤ (x i).toInt) (hx : ∃ i, d i = j ∧ x i = w) :
    ((List.finRange s.numel).filter fun n => d (s.rowMajor.symm n) = j).foldl
      (fun r n => IntOp.minsi r (x (s.rowMajor.symm n))) init = w := by
  refine foldl_minsi_eq (fun n => x (s.rowMajor.symm n)) w _ init hi (fun n hn => hb _ ?_) (.inr ?_)
  · simpa using (List.mem_filter.mp hn).2
  · obtain ⟨i, e, e'⟩ := hx
    exact ⟨s.rowMajor i, List.mem_filter.mpr ⟨List.mem_finRange _, by simpa using e⟩, by simpa using e'⟩

/-! ## The first maximum -/

/-- Column `c` holds the first maximum of the `N` values, and it is not the bottom. -/
structure FirstMax (N : ℕ) (v : ℕ → EReal) (c : ℕ) : Prop where
  lt : c < N
  le : ∀ n, n < N → v n ≤ v c
  first : ∀ n, n < c → v n < v c
  bot : ⊥ < v c

/-- A row of values has a first maximum unless all are the bottom. -/
theorem exists_firstMax (N : ℕ) (v : ℕ → EReal) (g : ℕ) (hg : g < N) (hv : ⊥ < v g) : ∃ c, FirstMax N v c := by
  classical
  obtain ⟨c, hc, hm⟩ := Finset.exists_max_image (Finset.range N) v ⟨g, Finset.mem_range.mpr hg⟩
  have hex : ∃ n, n < N ∧ v n = v c := ⟨c, Finset.mem_range.mp hc, rfl⟩
  have hs := Nat.find_spec hex
  have hle : ∀ n, n < N → v n ≤ v (Nat.find hex) := fun n hn => by
    rw [hs.2]; exact hm n (Finset.mem_range.mpr hn)
  refine ⟨Nat.find hex, hs.1, hle, fun n hn => ?_, lt_of_lt_of_le hv (hle g hg)⟩
  have hn' : n < N := hn.trans hs.1
  refine lt_of_le_of_ne (hle n hn') fun e => Nat.find_min hex hn ⟨hn', e.trans hs.2⟩

/-- Two rows of values agree on the first maximum where they agree except below some value of the first row's. -/
theorem FirstMax.transfer {N : ℕ} {v w : ℕ → EReal} {c : ℕ} (h : FirstMax N v c) (hc : w c = v c)
    (hw : ∀ n, n < N → w n = v n ∨ w n < v c) : FirstMax N w c where
  lt := h.lt
  le n hn := by
    rw [hc]
    rcases hw n hn with e | e
    · rw [e]; exact h.le n hn
    · exact e.le
  first n hn := by
    rw [hc]
    rcases hw n (hn.trans h.lt) with e | e
    · rw [e]; exact h.first n hn
    · exact e
  bot := by rw [hc]; exact h.bot

/-! ## The running maximum of every eighth column -/

/-- What the pair holds after the first `M` of the columns `a, 8 + a, 16 + a, …`. -/
def Running (v : ℕ → EReal) (a M : ℕ) (p : EReal × BitVec 32) : Prop :=
  (∀ m, m < M → v (8 * m + a) ≤ p.1) ∧
    (p.1 = ⊥ ∨ ∃ m, m < M ∧ p.2 = BitVec.ofNat 32 (8 * m + a) ∧ v (8 * m + a) = p.1 ∧ ∀ m', m' < m → v (8 * m' + a) < p.1)

theorem Running.zero (v : ℕ → EReal) (a : ℕ) (w : BitVec 32) : Running v a 0 (⊥, w) :=
  ⟨fun _ h => absurd h (Nat.not_lt_zero _), .inl rfl⟩

open Classical in
theorem Running.succ {v : ℕ → EReal} {a M : ℕ} {p : EReal × BitVec 32} (h : Running v a M p) :
    Running v a (M + 1) (max p.1 (v (8 * M + a)), if p.1 < v (8 * M + a) then BitVec.ofNat 32 (8 * M + a) else p.2) := by
  obtain ⟨hle, hp⟩ := h
  refine ⟨fun m hm => ?_, ?_⟩
  · rcases Nat.lt_succ_iff_lt_or_eq.mp hm with hm | rfl
    · exact (hle m hm).trans (le_max_left _ _)
    · exact le_max_right _ _
  · by_cases hs : p.1 < v (8 * M + a)
    · right
      refine ⟨M, Nat.lt_succ_self M, ?_, (max_eq_right hs.le).symm, fun m' hm' => ?_⟩
      · simp only [if_pos hs]
      · exact lt_of_lt_of_le (lt_of_le_of_lt (hle m' hm') hs) (le_max_right _ _)
    · simp only [if_neg hs, max_eq_left (not_lt.mp hs)]
      rcases hp with hp | ⟨m, hm, hx⟩
      · exact .inl hp
      · exact .inr ⟨m, Nat.lt_succ_of_lt hm, hx⟩

/-- The greatest of the eight running maxima is the row's maximum. -/
theorem Running.le_of {v : ℕ → EReal} {a M N c : ℕ} {p : EReal × BitVec 32} (h : Running v a M p) (hf : FirstMax N v c)
    (hM : 8 * M ≤ N) (ha : a < 8) : p.1 ≤ v c := by
  rcases h.2 with e | ⟨m, hm, -, e, -⟩
  · rw [e]; exact bot_le
  · rw [← e]; exact hf.le _ (by omega)

/-- A position whose running maximum is the row's is no earlier than the first maximum. -/
theorem Running.position {v : ℕ → EReal} {a M N c : ℕ} {p : EReal × BitVec 32} (h : Running v a M p) (hf : FirstMax N v c)
    (e : p.1 = v c) : ∃ m, m < M ∧ p.2 = BitVec.ofNat 32 (8 * m + a) ∧ c ≤ 8 * m + a := by
  rcases h.2 with e' | ⟨m, hm, hp, hv, -⟩
  · exact absurd (e.symm.trans e') hf.bot.ne'
  · refine ⟨m, hm, hp, not_lt.mp fun hlt => ?_⟩
    exact absurd (hv.trans e) (hf.first _ hlt).ne

/-- The lane of the first maximum holds it with its position. -/
theorem Running.at_first {v : ℕ → EReal} {M N c : ℕ} {p : EReal × BitVec 32} (h : Running v (c % 8) M p) (hf : FirstMax N v c)
    (hM : 8 * M = N) : p = (v c, BitVec.ofNat 32 c) := by
  have hc := hf.lt
  have hcm : 8 * (c / 8) + c % 8 = c := by omega
  have e : p.1 = v c := le_antisymm (h.le_of hf hM.le (by omega)) (by
    have := h.1 (c / 8) (by omega)
    rwa [hcm] at this)
  rcases h.2 with e' | ⟨m, hm, hp, hv, hlt⟩
  · exact absurd (e.symm.trans e') hf.bot.ne'
  · have hge : c ≤ 8 * m + c % 8 := not_lt.mp fun hl => absurd (hv.trans e) (hf.first _ hl).ne
    have hle : m ≤ c / 8 := not_lt.mp fun hl => by
      have := hlt (c / 8) hl
      rw [hcm, e] at this
      exact lt_irrefl _ this
    have hm' : 8 * m + c % 8 = c := by omega
    rw [hm'] at hp
    exact Prod.ext e hp

end Cert.Proof

end
-- ==== Proof.KernelSteps.lean ====
/- The kernel's steps at one sublane and one lane: a running maximum of every eighth column's score. -/
module

public import proofs.«01_k».proof.Proof.KernelOut
public import proofs.«01_k».proof.Proof.Pick

@[expose] public section

noncomputable section

namespace Cert.Proof

open Cert.KernelIdeal Cert.KernelIdeal.Gen Idealize.ShloMosaic Idealize.ShloMosaic.TcCoe

theorem kernel_pointwise : Pointwise (s := S80x128) shli shrui kcst where
  shl y a ha i := by
    show IntOp.shli .vector (y i) (BitVec.ofNat 32 a) = _
    have e : (BitVec.ofNat 32 a).toNat = a := by rw [BitVec.toNat_ofNat]; omega
    unfold IntOp.shli
    rw [if_pos (by rw [e]; exact ha), BitVec.shiftLeft_eq', e]
  shr y a ha i := by
    show IntOp.shrui .vector (y i) (BitVec.ofNat 32 a) = _
    have e : (BitVec.ofNat 32 a).toNat = a := by rw [BitVec.toNat_ofNat]; omega
    unfold IntOp.shrui
    rw [if_pos (by rw [e]; exact ha), BitVec.ushiftRight_eq', e]
  cst k i := rfl

theorem kword_apply (x : IVec S80x128 32) (y : S80x128.Idx) : kword x y = word (x y) :=
  xori_vcipher kernel_pointwise id (fun _ _ => rfl) (x, x) y rfl

theorem kscore_apply (l : Vec Ideal S80x128 .f32) (w : IVec S80x128 32) (y : S80x128.Idx) :
    kscore l w y = scoreK (l y) (w y) := by
  have e : ori (shrui w (kcst 9#32)) (kcst 1065353216#32) y = w y >>> 9 ||| 0x3F800000#32 := by
    show shrui w (kcst (BitVec.ofNat 32 9)) y ||| kcst 1065353216#32 y = _
    rw [kernel_pointwise.shr w 9 (by decide), kernel_pointwise.cst]
  unfold kscore scoreK noiseK frac
  rw [← e, ← Ideal.ofBits_zero_f32, shapeCast_self]
  rfl

/-- Point `t`'s counter words. -/
theorem kcounter_apply (t row : ℕ) (y : S80x128.Idx) :
    kcounter (BitVec.ofNat 32 (t * 10000)) (BitVec.ofNat 32 (row + 42)) y = counter (y 1) (10000 * t + row + (y 0).val) := by
  show BitVec.ofNat 32 (0 * 128 + (y 1).val) * 100000#32 + BitVec.ofNat 32 (0 * 80 + (y 0).val)
    + (BitVec.ofNat 32 (t * 10000) + BitVec.ofNat 32 (row + 42)) = _
  unfold counter
  rw [← BitVec.ofNat_mul, ← BitVec.ofNat_add, ← BitVec.ofNat_add, ← BitVec.ofNat_add]
  refine congrArg (BitVec.ofNat 32) ?_
  ring

/-- The score of row `l`'s column `n`, from the logits. -/
def scores (lg : ℕ → ℕ → EReal) (l n : ℕ) : EReal := scoreK (lg l n) (word (counter l n))

/-- The pair at an index. -/
def atPair (p : FVec Ideal S8x128 .f32 × IVec S8x128 32) (j : S8x128.Idx) : EReal × BitVec 32 := (p.1 j, p.2 j)

open Classical in
theorem slabStep_apply (t : ℕ) (score : FVec Ideal S80x128 .f32) (row k : ℕ) (p : FVec Ideal S8x128 .f32 × IVec S8x128 32) (j : S8x128.Idx)
    (s : EReal) (hs : extractStridedSlice S8x128 ![8 * (k % 10), 0] score (slab_slices k) j = s) :
    atPair (slabStep (BitVec.ofNat 32 (t * 10000)) score row k p) j =
      (max (atPair p j).1 s, if (atPair p j).1 < s then BitVec.ofNat 32 (10000 * t + row + 8 * k + (j 0).val) else (atPair p j).2) := by
  have hi : (addi (iota .tc S8x128 32 [0] iota_S8x128_d0_w32)
      (broadcast S8x128 (Scalar.addi (BitVec.ofNat 32 (t * 10000)) (BitVec.ofNat 32 (row + 8 * k))))) j
        = BitVec.ofNat 32 (10000 * t + row + 8 * k + (j 0).val) := by
    show BitVec.ofNat 32 (0 * 8 + (j 0).val) + (BitVec.ofNat 32 (t * 10000) + BitVec.ofNat 32 (row + 8 * k)) = _
    rw [← BitVec.ofNat_add, ← BitVec.ofNat_add]
    refine congrArg (BitVec.ofNat 32) ?_
    ring
  refine Prod.ext ?_ ?_
  · show max (p.1 j) (extractStridedSlice S8x128 ![8 * (k % 10), 0] score (slab_slices k) j) = max (p.1 j) s
    rw [hs]
  · show Scalar.select (Ideal.cmp .ogt (extractStridedSlice S8x128 ![8 * (k % 10), 0] score (slab_slices k) j) (p.1 j))
      ((addi (iota .tc S8x128 32 [0] iota_S8x128_d0_w32)
      (broadcast S8x128 (Scalar.addi (BitVec.ofNat 32 (t * 10000)) (BitVec.ofNat 32 (row + 8 * k))))) j) (p.2 j) =
        if p.1 j < s then _ else p.2 j
    rw [hs, hi]
    by_cases h : p.1 j < s
    · rw [if_pos h]
      simp [Scalar.select, Ideal.cmp, h]
    · rw [if_neg h]
      simp [Scalar.select, Ideal.cmp, h]

section Point

variable (lg : ℕ → ℕ → EReal) (t : ℕ) (load : ℕ → Vec Ideal S80x128 .f32)
  (hload : ∀ n, n < 125 → ∀ y : S80x128.Idx, load n y = lg (y 1) (10000 * t + 80 * n + (y 0).val))
  (j : S8x128.Idx)

include hload in
theorem step_running (n : ℕ) (hn : n < 125) (p : FVec Ideal S8x128 .f32 × IVec S8x128 32)
    (hp : Running (scores lg (j 1)) (j 0) (1250 * t + 10 * n) (atPair p j)) (k : ℕ) (hk : k ≤ 10) :
    Running (scores lg (j 1)) (j 0) (1250 * t + 10 * n + k)
      (atPair (Nat.rec (motive := fun _ => FVec Ideal S8x128 .f32 × IVec S8x128 32) p
        (fun k q => slabStep (BitVec.ofNat 32 (t * 10000)) (kscore (load n) (kword (kcounter (BitVec.ofNat 32 (t * 10000)) (BitVec.ofNat 32 (80 * n + 42)))))
          (80 * n) k q) k) j) := by
  induction k with
  | zero => exact hp
  | succ k ih =>
    have hr := (ih (Nat.le_of_succ_le hk)).succ
    have hj0 : (j 0).val < 8 := (j 0).isLt
    have e : 8 * (1250 * t + 10 * n + k) + (j 0).val = 10000 * t + 80 * n + 8 * k + (j 0).val := by ring
    rw [e] at hr
    refine Eq.mp (congrArg _ (slabStep_apply t _ (80 * n) k _ j _ ?_).symm) hr
    have hy : ∀ y : S80x128.Idx, (y 0).val = 8 * k + (j 0).val → (y 1).val = (j 1).val →
        kscore (load n) (kword (kcounter (BitVec.ofNat 32 (t * 10000)) (BitVec.ofNat 32 (80 * n + 42)))) y
          = scores lg (j 1) (10000 * t + 80 * n + 8 * k + (j 0).val) := fun y h0 h1 => by
      rw [kscore_apply, kword_apply, kcounter_apply, hload n hn, h0, h1]
      unfold scores
      rw [Nat.add_assoc (10000 * t + 80 * n) (8 * k)]
    refine hy _ ?_ ?_
    · show 8 * (k % 10) + (j 0).val = _
      rw [Nat.mod_eq_of_lt hk]
    · show 0 + (j 1).val = _
      rw [Nat.zero_add]

include hload in
theorem steps_running (p : FVec Ideal S8x128 .f32 × IVec S8x128 32)
    (hp : Running (scores lg (j 1)) (j 0) (1250 * t) (atPair p j)) (n : ℕ) (hn : n ≤ 125) :
    Running (scores lg (j 1)) (j 0) (1250 * t + 10 * n) (atPair (steps (BitVec.ofNat 32 (t * 10000)) load p n) j) := by
  induction n with
  | zero => exact hp
  | succ n ih => exact step_running lg t load hload j n hn _ (ih (Nat.le_of_succ_le hn)) 10 le_rfl

end Point

end Cert.Proof

end
-- ==== Proof.KernelFinal.lean ====
/- The kernel's last reduction: of the eight running maxima of a lane, the position of the first maximum. -/
module

public import proofs.«01_k».proof.Proof.KernelSteps

@[expose] public section

noncomputable section

namespace Cert.Proof

open Cert.KernelIdeal Cert.KernelIdeal.Gen Idealize.ShloMosaic Idealize.ShloMosaic.TcCoe

/-- A sublane and a lane. -/
def slot (a : Fin 8) (l : Fin 128) : S8x128.Idx := fun b =>
  match b with
  | 0 => a
  | 1 => l

/-- The single axis of lanes. -/
def lane (l : Fin 128) : S128.Idx := fun b =>
  match b with
  | 0 => l

theorem drop_lane (i : S8x128.Idx) (l : Fin 128) : reduces_S8x128_S128.drop i = lane l ↔ (i 1).val = l.val := by
  have e : (reduces_S8x128_S128.drop i 0).val = (i 1).val := Shape.Reduces.drop_apply_val_of_eq reduces_S8x128_S128 i 0 1
  constructor
  · intro h
    rw [← e, h]
    rfl
  · intro h
    refine funext fun b => ?_
    match b with
    | 0 => exact Fin.ext (e.trans h)

theorem shapeCast_lane {α : Type} (x : S128.Idx → α) (j : S1x128.Idx) : shapeCast S1x128 x shapeCasts_S128_S1x128 j = x (lane (j 1)) :=
  shapeCast_apply x shapeCasts_S128_S1x128 j (lane (j 1)) (by
    have h0 : (j 0).val < 1 := (j 0).isLt
    rw [Shape.rowMajor_val_one, Shape.rowMajor_val_two]
    show (j 1).val = (j 0).val * 128 + (j 1).val
    omega)

section Last

variable (s : ℕ → ℕ → EReal) (v : FVec Ideal S8x128 .f32) (w : IVec S8x128 32)
  (hr : ∀ i : S8x128.Idx, Running (s (i 1)) (i 0) 12500 (v i, w i))

include hr in
theorem last_max (l : Fin 128) (c : ℕ) (hc : FirstMax 100000 (s l) c) :
    multiReduction .maximumf [0] S128 v 0xFF800000#32 reduces_S8x128_S128 (.inl rfl) rfl (lane l) = s l c := by
  refine reduce_max_eq reduces_S8x128_S128.drop v _ _ _ ?_ (fun i hi => ?_) ?_
  · show Ideal.ofBits .f32 0xFF800000#32 ≤ _
    rw [ofBits_bot]
    exact bot_le
  · have h := hr i
    rw [(drop_lane i l).mp hi] at h
    exact h.le_of hc (by norm_num) (i 0).isLt
  · refine ⟨slot ⟨c % 8, Nat.mod_lt _ (by norm_num)⟩ l, (drop_lane _ _).mpr rfl, ?_⟩
    exact congrArg Prod.fst ((hr (slot ⟨c % 8, Nat.mod_lt _ (by norm_num)⟩ l)).at_first hc (by norm_num))

include hr in
theorem last_pos (j : S1x128.Idx) (c : ℕ) (hc : FirstMax 100000 (s (j 1)) c) : k0_pay3 (F := Ideal) v v w j = BitVec.ofNat 32 c := by
  have hlt := hc.lt
  unfold k0_pay3
  refine (shapeCast_lane _ j).trans ?_
  have hsel : ∀ i : S8x128.Idx, (i 1).val = (j 1).val →
      select (cmpf .oeq v (broadcastTo S8x128 (shapeCast S1x128
        (multiReduction .maximumf [0] S128 v 0xFF800000#32 reduces_S8x128_S128 (.inl rfl) rfl) shapeCasts_S128_S1x128)
          broadcasts_S1x128_S8x128)) w (broadcast S8x128 2147483647#32) i = if v i = s (j 1) c then w i else 2147483647#32 := fun i hi => by
    have eb : broadcastTo S8x128 (shapeCast S1x128
        (multiReduction .maximumf [0] S128 v 0xFF800000#32 reduces_S8x128_S128 (.inl rfl) rfl) shapeCasts_S128_S1x128)
          broadcasts_S1x128_S8x128 i = s (j 1) c := by
      refine (shapeCast_lane _ _).trans ?_
      have el : ∀ l : Fin 128, l.val = (j 1).val → multiReduction .maximumf [0] S128 v 0xFF800000#32 reduces_S8x128_S128 (.inl rfl) rfl (lane l) = s (j 1) c :=
        fun l hl => by
          rw [← hl]
          exact last_max s v w hr l c (by rw [hl]; exact hc)
      exact el _ hi
    show Scalar.select (Ideal.cmp .oeq (v i) (broadcastTo S8x128 (shapeCast S1x128
        (multiReduction .maximumf [0] S128 v 0xFF800000#32 reduces_S8x128_S128 (.inl rfl) rfl) shapeCasts_S128_S1x128)
          broadcasts_S1x128_S8x128 i)) (w i) 2147483647#32 = _
    rw [eb]
    by_cases h : v i = s (j 1) c
    · rw [if_pos h]
      simp [Scalar.select, Ideal.cmp, h]
    · rw [if_neg h]
      simp [Scalar.select, Ideal.cmp, h]
  have ht : (BitVec.ofNat 32 c).toInt ≤ (2147483647#32).toInt := by
    rw [ofNat_toInt c (by omega)]
    have : (2147483647#32).toInt = 2147483647 := by decide
    omega
  refine reduce_minsi_eq reduces_S8x128_S128.drop _ _ _ _ ht (fun i hi => ?_) ?_
  · have hi1 := (drop_lane i (j 1)).mp hi
    refine le_of_le_of_eq ?_ (congrArg BitVec.toInt (hsel i hi1).symm)
    by_cases h : v i = s (j 1) c
    · rw [if_pos h]
      have hri := hr i
      rw [hi1] at hri
      obtain ⟨m, hm, e, hle⟩ := hri.position hc h
      have h0 : (i 0).val < 8 := (i 0).isLt
      have e' : w i = BitVec.ofNat 32 (8 * m + (i 0).val) := e
      rw [e', ofNat_toInt c (by omega), ofNat_toInt _ (by omega)]
      exact_mod_cast hle
    · rw [if_neg h]
      exact ht
  · refine ⟨slot ⟨c % 8, Nat.mod_lt _ (by norm_num)⟩ (j 1), (drop_lane _ _).mpr rfl, ?_⟩
    have e := (hr (slot ⟨c % 8, Nat.mod_lt _ (by norm_num)⟩ (j 1))).at_first hc (by norm_num)
    exact (hsel _ rfl).trans ((if_pos (congrArg Prod.fst e)).trans (congrArg Prod.snd e))

end Last

end Cert.Proof

end
-- ==== Proof.KernelValue.lean ====
/- The kernel's result at a lane: the column of the first maximum of that row's scores. -/
module

public import proofs.«01_k».proof.Proof.KernelFinal
public import proofs.«01_k».proof.Proof.Gen.KernelIdeal.Value

@[expose] public section

noncomputable section

namespace Cert.Proof

open Cert.KernelIdeal Cert.KernelIdeal.Gen Cert.KernelIdeal.Value Idealize.ShloMosaic Idealize.ShloMosaic.TcCoe

variable (m : (ℓ : Loc nD τ sig) → Buf (Elt Ideal) ℓ) (c : Dev nD)

/-- A row and a column of the logits. -/
def cell (l : Fin 128) (n : Fin 100000) : S128x100000.Idx := fun b =>
  match b with
  | 0 => l
  | 1 => n

/-- The logits by row and column. -/
def logit (x : S128x100000.Idx → EReal) (l n : ℕ) : EReal :=
  if h : l < 128 ∧ n < 100000 then x (cell ⟨l, h.1⟩ ⟨n, h.2⟩) else 0

theorem logit_apply (x : S128x100000.Idx → EReal) (i : S128x100000.Idx) : logit x (i 0) (i 1) = x i := by
  have h0 : (i 0).val < 128 := (i 0).isLt
  have h1 : (i 1).val < 100000 := (i 1).isLt
  unfold logit
  rw [dif_pos ⟨h0, h1⟩]
  refine congrArg x (funext fun b => ?_)
  match b with
  | 0 => rfl
  | 1 => rfl

theorem idx_in : ∀ t : Fin cfg0.N, win0_0.index t = ![t.val, 0] :=
  (by decide +kernel : ∀ t : Fin grid0.N, _)

theorem coords_eq : ∀ t : Fin cfg0.N, (grid0.coords t 0).val = t.val :=
  (by decide +kernel : ∀ t : Fin grid0.N, _)

/-- The block of a point is its ten thousand columns, transposed. -/
theorem iblk_apply (t : Fin cfg0.N) (r : ℕ) (hr : r < 10000) (l : Fin 128) :
    iblk m c 0 t (blockIdx r hr l) = logit (m ((c : Thread nD τ).loc main_arg0)) l (10000 * t.val + r) := by
  have ht : t.val < 10 := t.isLt
  have hc : 10000 * t.val + r < 100000 := by omega
  unfold logit
  rw [dif_pos ⟨l.isLt, hc⟩]
  have e0 : ((win0_0.rect t).emb (blockIdx r hr l) 0 : ℕ) = 10000 * t.val + r := by
    rw [win0_0.rect_emb_val, idx_in t]
    show t.val * 10000 + r = _
    omega
  have e1 : ((win0_0.rect t).emb (blockIdx r hr l) 1 : ℕ) = l.val := by
    rw [win0_0.rect_emb_val, idx_in t]
    show 0 * 128 + l.val = _
    omega
  have hblk : iblk m c 0 t (blockIdx r hr l) = transpose S100000x128 [1, 0] (m ((c : Thread nD τ).loc main_arg0))
      transposes_S128x100000_S100000x128_1_0 ((win0_0.rect t).emb (blockIdx r hr l)) := rfl
  rw [hblk]
  refine transpose_apply _ _ transposes_S128x100000_S100000x128_1_0 _ (cell ⟨l, l.isLt⟩ ⟨10000 * t.val + r, hc⟩) fun b => ?_
  match b with
  | 0 => exact e0.symm
  | 1 => exact e1.symm

theorem base_eq (t : Fin cfg0.N) : base (grid0.coords t) = BitVec.ofNat 32 (t.val * 10000) := by
  unfold base
  show BitVec.ofNat 32 (grid0.coords t 0).val * 10000#32 = _
  rw [coords_eq, ← BitVec.ofNat_mul]

/-- The scores of the launch's logits. -/
def kscores (l n : ℕ) : EReal := scores (logit (m ((c : Thread nD τ).loc main_arg0))) l n

/-- One point's steps carry the running maxima on. -/
theorem point_running (t : Fin cfg0.N) (p : FVec Ideal S8x128 .f32 × IVec S8x128 32) (i : S8x128.Idx)
    (hp : Running (kscores m c (i 1)) (i 0) (1250 * t.val) (p.1 i, p.2 i)) :
    Running (kscores m c (i 1)) (i 0) (1250 * (t.val + 1))
      ((steps (base (grid0.coords t)) (rows (ms0_0 t) (hs0_0 t) (iblk m c 0 t)) p 125).1 i,
        (steps (base (grid0.coords t)) (rows (ms0_0 t) (hs0_0 t) (iblk m c 0 t)) p 125).2 i) := by
  rw [base_eq]
  refine steps_running (logit (m ((c : Thread nD τ).loc main_arg0))) t.val _ (fun n hn y => ?_) i p hp 125 le_rfl
  have h0 : (y 0).val < 80 := (y 0).isLt
  refine (rows_apply (ms0_0 t) (hs0_0 t) (iblk m c 0 t) n hn y).trans ((iblk_apply m c t _ (by omega) _).trans ?_)
  rw [Nat.add_assoc]

/-- What the grid's first `n + 1` points leave carried. -/
theorem carried_running (n : ℕ) (h : 0 + n < cfg0.N) (hn : n < 9) (i : S8x128.Idx) :
    Running (kscores m c (i 1)) (i 0) (1250 * (0 + n + 1))
      ((Pipeline.accAt (fun n h => stAt0 m c n h junk0) (stAt0 m c) 0 n h).2.1 i,
        (Pipeline.accAt (fun n h => stAt0 m c n h junk0) (stAt0 m c) 0 n h).2.2 i) := by
  induction n with
  | zero =>
    have e := congrArg Prod.snd (stAt0_A m c ⟨0, h⟩ junk0 (by show 0 % 10 = 0; decide) (by show ¬0 % 10 = 9; decide))
    have e' := e.trans (sout_A ..)
    rw [Pipeline.accAt_zero]
    refine Eq.mp ?_ (point_running m c ⟨0, h⟩ (fun _ => Scalar.ofBits .f32 0xFF800000#32, fun _ => 0#32) i ?_)
    · rw [← e']
    · refine Eq.mp (congrArg (fun b => Running (kscores m c (i 1)) (i 0) 0 (b, 0#32)) ofBits_bot.symm) (Running.zero _ _ _)
  | succ n ih =>
    have e := congrArg Prod.snd (stAt0_B m c ⟨0 + (n + 1), h⟩ (Pipeline.accAt (fun n h => stAt0 m c n h junk0) (stAt0 m c) 0 n (Nat.lt_of_succ_lt h))
      (by show ¬(0 + (n + 1)) % 10 = 0; omega) (by show ¬(0 + (n + 1)) % 10 = 9; omega))
    have e' := e.trans (sout_B ..)
    have hp := point_running m c ⟨0 + (n + 1), h⟩ _ i (ih (Nat.lt_of_succ_lt h) (by omega))
    rw [Pipeline.accAt_succ]
    refine Eq.mp ?_ hp
    rw [← e']

theorem last_out (t : Fin cfg0.N) (acc : Vec Ideal S1x128 .i32 × Vec Ideal S8x128 .f32 × Vec Ideal S8x128 .i32)
    (h0 : ¬t.val % 10 = 0) (h1 : t.val % 10 = 9) (j : S1x128.Idx) :
    (stAt0 m c t.val t.isLt acc).1 j = k0_pay3 (F := Ideal) (steps (base (grid0.coords t)) (rows (ms0_0 t) (hs0_0 t) (iblk m c 0 t)) acc.2 125).1
      (steps (base (grid0.coords t)) (rows (ms0_0 t) (hs0_0 t) (iblk m c 0 t)) acc.2 125).1
      (steps (base (grid0.coords t)) (rows (ms0_0 t) (hs0_0 t) (iblk m c 0 t)) acc.2 125).2 j := by
  rw [stAt0_C m c t acc h0 h1]
  exact congrFun (out_C c (grid0.coords t) (ms0_0 t) (hs0_0 t) (ms0_1 t) (hs0_1 t) scM0_0 (Memref.isWhole_whole _) scM0_1 (Memref.isWhole_whole _)
    (iblk m c 0 t) acc.2.1 acc.2.2 (fun h => h0 ((hcond0_0 t).mp h)) ((hcond0_1 t).mpr h1)) j

/-- The last point's result at a lane. -/
theorem last_value (n : ℕ) (h : 0 + (n + 1) < cfg0.N) (hn : n = 8) (j : S1x128.Idx) (k : ℕ) (hk : FirstMax 100000 (kscores m c (j 1)) k) :
    (Pipeline.accAt (fun n h => stAt0 m c n h junk0) (stAt0 m c) 0 (n + 1) h).1 j = BitVec.ofNat 32 k := by
  rw [Pipeline.accAt_succ]
  refine (last_out m c ⟨0 + (n + 1), h⟩ _ (by show ¬(0 + (n + 1)) % 10 = 0; omega) (by show (0 + (n + 1)) % 10 = 9; omega) j).trans ?_
  refine last_pos (kscores m c) _ _ (fun i => ?_) j k hk
  have hr := point_running m c ⟨0 + (n + 1), h⟩ _ i (carried_running m c n (Nat.lt_of_succ_lt h) (by omega) i)
  have e : 1250 * (0 + (n + 1) + 1) = 12500 := by omega
  exact Eq.mp (congrArg (fun M => Running _ _ M _) e) hr

/-- The kernel's result at a lane. -/
theorem kernel_value (j : S1x128.Idx) (k : ℕ) (hk : FirstMax 100000 (kscores m c (j 1)) k) :
    G1 m c j = BitVec.ofNat 32 k :=
  (congrFun (G1_last m c) j).trans (last_value m c 8 _ rfl j k hk)

end Cert.Proof

end
-- ==== Proof.RefScore.lean ====
/- The reference's scores, read at one index. -/
module

public import proofs.«01_k».proof.Proof.Cipher
public import proofs.«01_k».proof.Proof.Gen.ReferenceIdeal.Run

@[expose] public section

noncomputable section

namespace Cert.Proof

open Cert.ReferenceIdeal Cert.ReferenceIdeal.Gen Cert.ReferenceIdeal.Value Idealize.ShloMosaic Idealize.ShloMosaic.TcCoe Idealize.SL.Sem Idealize.ShloMosaic.StableHlo

/-- An integer constant of the reference, at every index. -/
def hcst (k : BitVec 32) : IVec S128x100000 32 := broadcastInDim S128x100000 ![] bcast_S_S128x100000 (constantI S_ 32 k)

/-- A float constant of the reference, at every index. -/
def hcstF (k : BitVec 32) : FVec Ideal S128x100000 .f32 := broadcastInDim S128x100000 ![] bcast_S_S128x100000 (constant S_ .f32 k)

theorem host_pointwise : Pointwise (s := S128x100000) Host.shli Host.shrui hcst where
  shl y a ha i := by
    show IntOp.shli .host (y i) (BitVec.ofNat 32 a) = _
    have e : (BitVec.ofNat 32 a).toNat = a := by rw [BitVec.toNat_ofNat]; omega
    unfold IntOp.shli
    rw [if_pos (by rw [e]; exact ha), BitVec.shiftLeft_eq', e]
  shr y a ha i := by
    show IntOp.shrui .host (y i) (BitVec.ofNat 32 a) = _
    have e : (BitVec.ofNat 32 a).toNat = a := by rw [BitVec.toNat_ofNat]; omega
    unfold IntOp.shrui
    rw [if_pos (by rw [e]; exact ha), BitVec.ushiftRight_eq', e]
  cst k i := rfl

/-- The reference's counter words. -/
def hcounter : IVec S128x100000 32 :=
  addi (addi (muli (iotaInDim S128x100000 32 0) (hcst 100000#32)) (iotaInDim S128x100000 32 1)) (hcst 42#32)

/-- The reference's cipher. -/
def hcipher : IVec S128x100000 32 × IVec S128x100000 32 :=
  vcipher Host.shli Host.shrui hcst (fun x => addi x (hcst 0#32)) (addi (addi (hcst 0#32) (hcst 0#32)) hcounter, hcounter)

theorem hcounter_apply (i : S128x100000.Idx) : hcounter i = counter (i 0) (i 1) := by
  show BitVec.ofNat 32 (i 0) * 100000#32 + BitVec.ofNat 32 (i 1) + 42#32 = _
  unfold counter
  rw [BitVec.ofNat_add, BitVec.ofNat_add, BitVec.ofNat_mul]

/-- The reference's scores, from logits and random words. -/
def hscore (l : FVec Ideal S128x100000 .f32) (w : IVec S128x100000 32) : FVec Ideal S128x100000 .f32 :=
  addf (Host.negf (Host.log (Host.negf (Host.log (maximumf (subf (bitcastToFloat (F := Ideal) .f32
    (ori (Host.shrui w (hcst 9#32)) (hcst 1065353216#32))) (hcstF 0x3F800000#32)) (hcstF 0x00800000#32)))))) l

theorem hscore_apply (l : FVec Ideal S128x100000 .f32) (w : IVec S128x100000 32) (i : S128x100000.Idx) :
    hscore l w i = scoreR (l i) (w i) := by
  have e : ori (Host.shrui w (hcst 9#32)) (hcst 1065353216#32) i = w i >>> 9 ||| 0x3F800000#32 := by
    show Host.shrui w (hcst (BitVec.ofNat 32 9)) i ||| hcst 1065353216#32 i = _
    rw [host_pointwise.shr w 9 (by decide), host_pointwise.cst]
  unfold scoreR noiseR frac
  rw [← e]
  rfl

theorem res_scores (V0 : Valuation τ sig (Elt Ideal)) :
    res_main_v184 V0 = hscore (V0 (Proc.devRef .tc main_arg0)) (xori hcipher.1 hcipher.2) := by
  sl_kernel_rfl

/-- The reference's score at an index. -/
theorem res_score_apply (V0 : Valuation τ sig (Elt Ideal)) (i : S128x100000.Idx) :
    res_main_v184 V0 i = scoreR (V0 (Proc.devRef .tc main_arg0) i) (word (counter (i 0) (i 1))) := by
  have hw : xori hcipher.1 hcipher.2 i = word (counter (i 0) (i 1)) := by
    rw [← hcounter_apply]
    exact xori_vcipher host_pointwise (fun x => addi x (hcst 0#32)) (fun x i => BitVec.add_zero (x i))
      (addi (addi (hcst 0#32) (hcst 0#32)) hcounter, hcounter) i
      (by show 0#32 + 0#32 + hcounter i = hcounter i; simp)
  rw [res_scores, hscore_apply, hw]

end Cert.Proof

end
-- ==== Proof.RefValue.lean ====
/- The reference's result at a lane: the column of the first maximum of that row's scores. -/
module

public import proofs.«01_k».proof.Proof.RefScore
public import proofs.«01_k».proof.Proof.Pick

@[expose] public section

noncomputable section

namespace Cert.Proof

open Cert.ReferenceIdeal Cert.ReferenceIdeal.Gen Idealize.ShloMosaic Idealize.ShloMosaic.TcCoe

/-- The single axis of rows. -/
def hrow (l : Fin 128) : S128.Idx := fun b =>
  match b with
  | 0 => l

/-- A row and a column. -/
def hcell (l : Fin 128) (n : Fin 100000) : S128x100000.Idx := fun b =>
  match b with
  | 0 => l
  | 1 => n

theorem drop_row (i : S128x100000.Idx) (l : Fin 128) : reducesTo_S128x100000_S128_d1.drop i = hrow l ↔ (i 0).val = l.val := by
  have e : (reducesTo_S128x100000_S128_d1.drop i 0).val = (i 0).val :=
    Shape.ReducesTo.drop_apply_val_of_eq reducesTo_S128x100000_S128_d1 i 0 0
  constructor
  · intro h
    rw [← e, h]
    rfl
  · intro h
    refine funext fun b => ?_
    match b with
    | 0 => exact Fin.ext (e.trans h)

theorem over_columns {α : Type} (y : S128.Idx → α) (i : S128x100000.Idx) :
    broadcastInDim S128x100000 ![0, 1] bcast_S128x1_S128x100000_0_1 (broadcastInDim S128x1 ![0] bcast_S128_S128x1_0 y) i = y (hrow (i 0)) :=
  congrArg y (funext fun b => match b with | 0 => Fin.ext rfl)

theorem as_lanes {α : Type} (y : S128.Idx → α) (j : S1x128.Idx) :
    broadcastInDim S1x128 ![1] bcast_S128_S1x128_1 y j = y (hrow (j 1)) :=
  congrArg y (funext fun b => match b with | 0 => Fin.ext rfl)

section Row

variable (s : ℕ → ℕ → EReal) (x : FVec Ideal S128x100000 .f32) (hx : ∀ i : S128x100000.Idx, x i = s (i 0) (i 1))

include hx in
theorem row_max (l : Fin 128) (c : ℕ) (hc : FirstMax 100000 (s l) c) :
    Host.reduce FloatOps.maximumf x (constant S_ .f32 0xFF800000#32) reducesTo_S128x100000_S128_d1 h_S_ (hrow l) = s l c := by
  refine reduce_max_eq reducesTo_S128x100000_S128_d1.drop x _ _ _ ?_ (fun i hi => ?_) ?_
  · show Ideal.ofBits .f32 0xFF800000#32 ≤ _
    rw [ofBits_bot]
    exact bot_le
  · rw [hx, (drop_row i l).mp hi]
    exact hc.le _ (i 1).isLt
  · exact ⟨hcell l ⟨c, hc.lt⟩, (drop_row _ _).mpr rfl, hx _⟩

/-- The maxima of the rows, as compared with every score. -/
def spread : FVec Ideal S128x100000 .f32 :=
  broadcastInDim S128x100000 ![0, 1] bcast_S128x1_S128x100000_0_1 (broadcastInDim S128x1 ![0] bcast_S128_S128x1_0
    (Host.reduce FloatOps.maximumf x (constant S_ .f32 0xFF800000#32) reducesTo_S128x100000_S128_d1 h_S_))

/-- A column where its score is the row's maximum. -/
def marked : IVec S128x100000 32 :=
  select (cmpf .oeq x (spread x)) (iotaInDim S128x100000 32 1) (broadcastInDim S128x100000 ![] bcast_S_S128x100000 (constantI S_ 32 100000#32))

include hx in
theorem spread_apply (i : S128x100000.Idx) (l : Fin 128) (hl : (i 0).val = l.val) (c : ℕ) (hc : FirstMax 100000 (s l) c) : spread x i = s l c := by
  have e : i 0 = l := Fin.ext hl
  unfold spread
  rw [over_columns, e, row_max s x hx l c hc]

include hx in
theorem marked_apply (i : S128x100000.Idx) (l : Fin 128) (hl : (i 0).val = l.val) (c : ℕ) (hc : FirstMax 100000 (s l) c) :
    marked x i = if x i = s l c then BitVec.ofNat 32 (i 1) else 100000#32 := by
  show Scalar.select (Ideal.cmp .oeq (x i) (spread x i)) (BitVec.ofNat 32 (i 1)) 100000#32 = _
  rw [spread_apply s x hx i l hl c hc]
  by_cases h : x i = s l c
  · rw [if_pos h]
    simp [Scalar.select, Ideal.cmp, h]
  · rw [if_neg h]
    simp [Scalar.select, Ideal.cmp, h]

include hx in
theorem row_pos (l : Fin 128) (c : ℕ) (hc : FirstMax 100000 (s l) c) :
    Host.reduce IntOp.minsi (marked x) (constantI S_ 32 2147483647#32) reducesTo_S128x100000_S128_d1 h_S_ (hrow l) = BitVec.ofNat 32 c := by
  have hlt := hc.lt
  have hm : (100000#32).toInt = 100000 := by decide
  have hM : (2147483647#32).toInt = 2147483647 := by decide
  have ht := ofNat_toInt c (by omega)
  refine reduce_minsi_eq reducesTo_S128x100000_S128_d1.drop (marked x) _ _ _ ?_ (fun i hi => ?_) ?_
  · show (BitVec.ofNat 32 c).toInt ≤ (2147483647#32).toInt
    omega
  · have hi0 := (drop_row i l).mp hi
    rw [marked_apply s x hx i l hi0 c hc]
    have h1 : (i 1).val < 100000 := (i 1).isLt
    by_cases h : x i = s l c
    · rw [if_pos h, ht, ofNat_toInt _ (by omega)]
      have hle : c ≤ (i 1).val := not_lt.mp fun hlt => by
        have e := hc.first _ hlt
        rw [← hi0, ← hx i, h, hi0] at e
        exact lt_irrefl _ e
      exact_mod_cast hle
    · rw [if_neg h]
      omega
  · refine ⟨hcell l ⟨c, hlt⟩, (drop_row _ _).mpr rfl, ?_⟩
    rw [marked_apply s x hx _ l rfl c hc]
    exact if_pos (hx _)

include hx in
theorem reference_value (j : S1x128.Idx) (c : ℕ) (hc : FirstMax 100000 (s (j 1)) c) :
    broadcastInDim S1x128 ![1] bcast_S128_S1x128_1
      (Host.reduce IntOp.minsi (marked x) (constantI S_ 32 2147483647#32) reducesTo_S128x100000_S128_d1 h_S_) j = BitVec.ofNat 32 c := by
  rw [as_lanes, row_pos s x hx (j 1) c hc]

end Row

end Cert.Proof

end
-- ==== Proof.Good.lean ====
/- One column of each row whose draw is nearly the largest. -/
module

public import proofs.«01_k».proof.Proof.Draw

@[expose] public section

namespace Cert.Proof

/-- Per row, a column whose draw is within 450 steps of the largest. -/
def goodCols : List ℕ :=
  [59469, 38259, 69600, 27910, 69343, 6784, 25705, 24483, 26639, 33386, 30457, 40870, 78185, 45648, 28283, 5509, 17906, 11619, 46124, 6518,
   7335, 49288, 24234, 69025, 31631, 23149, 85454, 32180, 68907, 58682, 65526, 91754, 79288, 51131, 8050, 64816, 65389, 90946, 20679, 64615,
   50910, 30874, 37075, 27, 25815, 63129, 25100, 93358, 26348, 31721, 34048, 22813, 77898, 97789, 90270, 74955, 97173, 19447, 52927, 18770,
   95835, 16057, 48912, 25982, 5068, 77742, 16691, 82033, 26556, 16054, 7568, 56901, 99157, 28618, 32971, 55225, 58317, 52049, 46546, 70824,
   45051, 95695, 75558, 80364, 29025, 64466, 94109, 82159, 44331, 27681, 47513, 66343, 2640, 18756, 21074, 78508, 82291, 66410, 29667, 84988,
   32737, 19006, 96376, 50420, 61652, 84016, 19146, 10005, 59793, 95951, 32140, 812, 81701, 61938, 22536, 9635, 65692, 79145, 48237, 97382,
   47228, 61503, 36793, 72655, 1571, 21752, 21414, 51843]

def goodCol (r : ℕ) : ℕ := goodCols.getD r 0

theorem goodCol_spec : ∀ r < 128, goodCol r < 100000 ∧ 2 ^ 23 - 450 ≤ (word (counter r (goodCol r))).toNat / 512 := by
  decide +kernel

end Cert.Proof

end
-- ==== Proof.Link.lean ====
/- The kernel's scores and the reference's have the same first maximum in every row. -/
module

public import proofs.«01_k».proof.Proof.Good
public import proofs.«01_k».proof.Proof.Pick

@[expose] public section

noncomputable section

namespace Cert.Proof

open Idealize.ShloMosaic

theorem ofBits_seven : Ideal.ofBits .f32 0x40E00000#32 = ((7 : ℝ) : EReal) := by
  show Ideal.ieee 8 23 0x40E00000#32 = _
  unfold Ideal.ieee
  simp only
  rw [if_neg (by decide), if_neg (by decide)]
  refine congrArg _ ?_
  have e1 : ((0x40E00000#32).extractLsb' 23 8).toNat = 129 := by decide
  have e2 : ((0x40E00000#32).extractLsb' 0 23).toNat = 6291456 := by decide
  have e3 : ((0x40E00000#32).extractLsb' (8 + 23) 1 == 1#1) = false := by decide
  rw [e1, e2, e3]
  norm_num

/-- A logit between minus seven and seven. -/
def Within (x : EReal) : Prop := ∃ r : ℝ, x = (r : EReal) ∧ -7 ≤ r ∧ r ≤ 7

theorem within_of_abs (x : EReal) (h : max x (-x) ≤ ((7 : ℝ) : EReal)) : Within x := by
  have h1 := (le_max_left x (-x)).trans h
  have h2 := (le_max_right x (-x)).trans h
  induction x with
  | bot => exact absurd h2 (by rw [EReal.neg_bot]; exact not_le.mpr (EReal.coe_lt_top 7))
  | top => exact absurd h1 (not_le.mpr (EReal.coe_lt_top 7))
  | coe r =>
    refine ⟨r, rfl, ?_, EReal.coe_le_coe_iff.mp h1⟩
    have := EReal.coe_le_coe_iff.mp (by rw [EReal.coe_neg]; exact h2 : ((-r : ℝ) : EReal) ≤ ((7 : ℝ) : EReal))
    linarith

/-- Both rows of scores have one first maximum. -/
theorem common_first (lg : ℕ → EReal) (l : ℕ) (hl : l < 128) (hw : ∀ n, n < 100000 → Within (lg n)) :
    ∃ c, FirstMax 100000 (fun n => scoreR (lg n) (word (counter l n))) c ∧ FirstMax 100000 (fun n => scoreK (lg n) (word (counter l n))) c := by
  obtain ⟨hg, hk⟩ := goodCol_spec l hl
  generalize goodCol l = g at hg hk
  have hlarge : ((11 / 4 : ℝ) : EReal) ≤ scoreR (lg g) (word (counter l g)) := by
    obtain ⟨r, e, h1, -⟩ := hw g hg
    rw [e]
    exact scoreR_large r h1 _ hk
  obtain ⟨c, hc⟩ := exists_firstMax 100000 (fun n => scoreR (lg n) (word (counter l n))) g hg (lt_of_lt_of_le (EReal.bot_lt_coe _) hlarge)
  have hbig : ((11 / 4 : ℝ) : EReal) ≤ scoreR (lg c) (word (counter l c)) := hlarge.trans (hc.le g hg)
  have hck : (word (counter l c)).toNat / 512 ≠ 0 := fun h0 => by
    obtain ⟨r, e, -, h2⟩ := hw c hc.lt
    rw [e] at hbig
    exact absurd (scoreR_zero r h2 _ h0) (not_lt.mpr hbig)
  refine ⟨c, hc, hc.transfer (score_eq _ _ hck) fun n hn => ?_⟩
  by_cases h0 : (word (counter l n)).toNat / 512 = 0
  · right
    show scoreK (lg n) (word (counter l n)) < _
    rw [scoreK_zero _ _ h0]
    exact hc.bot
  · exact .inl (score_eq _ _ h0)

end Cert.Proof

end
-- ==== Proof.lean ====
/- The claims, from the generated frames and the two value theorems. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logits_within_7
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Link
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition bounds every logit. -/
theorem within_of_pre (x : FVec Ideal Cert.KernelIdeal.S128x100000 .f32) (h : Cert.Pre_logits_within_7.fn (F := Ideal) x = fun _ => 1#1)
    (i : Cert.KernelIdeal.S128x100000.Idx) : Within (x i) := by
  have h0 := congrFun h (Shape.Idx.first Cert.Pre_logits_within_7.Gen.h_S_)
  dsimp only [Cert.Pre_logits_within_7.fn] at h0
  haveI : Subsingleton Cert.Pre_logits_within_7.S_.Idx := ⟨fun _ _ => funext fun a => a.elim0⟩
  have h1 := Host.reduce_andi_all _ _ _ _ _ h0 i
  have h2 : Ideal.cmp .ole (max (x i) (-x i)) (Ideal.ofBits .f32 0x40E00000#32) = 1#1 := h1
  refine within_of_abs _ (le_of_le_of_eq ?_ ofBits_seven)
  by_contra hn
  simp [Ideal.cmp, hn] at h2

theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD, r.2.mem ((c.tc : Thread Cert.ReferenceIdeal.nD Cert.ReferenceIdeal.τ).loc Cert.ReferenceIdeal.main_arg0) =
        m ((c.tc : Thread Cert.ReferenceIdeal.nD Cert.ReferenceIdeal.τ).loc Cert.ReferenceIdeal.main_arg0)) ∧ r.2.sem = fun _ => 0 :=
  (θ_run _ _ _).mono (fun r h => ⟨fun c => (h c).2, Idealize.ShloMosaic.sem_eq_zero_of_no_sems (by decide) r.2⟩)
    (Cert.ReferenceIdeal.Value.run m g)

/-- The two results agree where every logit is within seven. -/
theorem results_agree (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hV : V0 (Proc.devRef .tc Cert.ReferenceIdeal.main_arg0) = m ((c.tc : Thread Cert.KernelIdeal.nD Cert.KernelIdeal.τ).loc Cert.KernelIdeal.main_arg0))
    (hw : ∀ i, Within (m ((c.tc : Thread Cert.KernelIdeal.nD Cert.KernelIdeal.τ).loc Cert.KernelIdeal.main_arg0) i)) (j : Cert.KernelIdeal.S1x128.Idx) :
    broadcastInDim Cert.ReferenceIdeal.S1x128 ![1] Cert.ReferenceIdeal.Gen.bcast_S128_S1x128_1
      (Host.reduce IntOp.minsi (marked (Cert.ReferenceIdeal.Value.res_main_v184 V0)) (constantI Cert.ReferenceIdeal.S_ 32 2147483647#32)
        Cert.ReferenceIdeal.Gen.reducesTo_S128x100000_S128_d1 Cert.ReferenceIdeal.Gen.h_S_) j = Cert.KernelIdeal.Value.G1 m c j := by
  obtain ⟨k, hr, hk⟩ := common_first (logit (m ((c.tc : Thread Cert.KernelIdeal.nD Cert.KernelIdeal.τ).loc Cert.KernelIdeal.main_arg0)) (j 1)) (j 1) (j 1).isLt
    fun n hn => by
      unfold logit
      rw [dif_pos ⟨(j 1).isLt, hn⟩]
      exact hw _
  refine (reference_value (fun l n => scoreR (logit (m ((c.tc : Thread Cert.KernelIdeal.nD Cert.KernelIdeal.τ).loc Cert.KernelIdeal.main_arg0)) l n) (word (counter l n)))
    _ (fun i => ?_) j k hr).trans (kernel_value m c j k hk).symm
  rw [res_score_apply, hV, logit_apply]

theorem claim : Cert.Claim := ⟨Cert.Kernel.Gen.facts, Cert.KernelIdeal.Gen.facts, Cert.ReferenceIdeal.Gen.facts, Cert.Pre_logits_within_7.Gen.facts,
  fun m ρ _ => Cert.Kernel.Gen.frame m ρ, fun m ρ _ => Cert.KernelIdeal.Gen.frame m ρ, fun m ρ _ => Cert.KernelIdeal.Gen.frame m ρ,
  fun m g _ => reference_quiescent m g, fun m g _ => reference_quiescent m g, trivial,
  fun m g m' g' hp ha => ⟨fun c => Cert.KernelIdeal.Value.G1 m c, Cert.KernelIdeal.Value.run m g,
    (θ_run _ _ _).mono (fun _ h c => ⟨(h c).1.trans (funext fun j => results_agree m _ c (ha c) (within_of_pre _ (hp c)) j), (h c).2⟩)
      (Cert.ReferenceIdeal.Value.run m' g')⟩⟩

end Cert.Proof

end
